-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x3A2AAAAB#32 ((1 / 1536 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x1536 : Shape := ⟨3, ![4, 512, 1536]⟩
abbrev S4x512 : Shape := ⟨2, ![4, 512]⟩
abbrev S1536 : Shape := ⟨1, ![1536]⟩
abbrev S1536x2048 : Shape := ⟨2, ![1536, 2048]⟩
abbrev S12x16 : Shape := ⟨2, ![12, 16]⟩
abbrev S4x512x2048 : Shape := ⟨3, ![4, 512, 2048]⟩
abbrev S8x1x256 : Shape := ⟨3, ![8, 1, 256]⟩
abbrev S1x1536 : Shape := ⟨2, ![1, 1536]⟩
abbrev S1x256x1536 : Shape := ⟨3, ![1, 256, 1536]⟩
abbrev S1x1x256 : Shape := ⟨3, ![1, 1, 256]⟩
abbrev S1x256x2048 : Shape := ⟨3, ![1, 256, 2048]⟩
abbrev S1536x256 : Shape := ⟨2, ![1536, 256]⟩
abbrev S1x1 : Shape := ⟨2, ![1, 1]⟩
abbrev S128x128 : Shape := ⟨2, ![128, 128]⟩
abbrev S1x256 : Shape := ⟨2, ![1, 256]⟩
abbrev S128x256 : Shape := ⟨2, ![128, 256]⟩
abbrev S256x128 : Shape := ⟨2, ![256, 128]⟩
abbrev S256x1 : Shape := ⟨2, ![256, 1]⟩
abbrev S256x1536 : Shape := ⟨2, ![256, 1536]⟩
abbrev S256x2048 : Shape := ⟨2, ![256, 2048]⟩
abbrev S256 : Shape := ⟨1, ![256]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 16
  | .vmem => 22
  | .smem => 1
  | _ => 0

abbrev bufTy : (tb : Table) → Fin (tcTables nBuf tb) → BufTy
  | .hbm, ⟨0, _⟩ => ⟨S4x512x1536, .fp8e4m3⟩
  | .hbm, ⟨1, _⟩ => ⟨S4x512, .f32⟩
  | .hbm, ⟨2, _⟩ => ⟨S4x512, .f32⟩
  | .hbm, ⟨3, _⟩ => ⟨S1536, .f32⟩
  | .hbm, ⟨4, _⟩ => ⟨S1536x2048, .fp8e4m3⟩
  | .hbm, ⟨5, _⟩ => ⟨S12x16, .f32⟩
  | .hbm, ⟨6, _⟩ => ⟨S4x512x2048, .bf16⟩
  | .hbm, ⟨7, _⟩ => ⟨S8x1x256, .f32⟩
  | .hbm, ⟨8, _⟩ => ⟨S8x1x256, .f32⟩
  | .hbm, ⟨9, _⟩ => ⟨S1x1536, .f32⟩
  | .hbm, ⟨10, _⟩ => ⟨S4x512x1536, .bf16⟩
  | .hbm, ⟨11, _⟩ => ⟨S1x1536, .f32⟩
  | .hbm, ⟨12, _⟩ => ⟨S1536x2048, .bf16⟩
  | .hbm, ⟨13, _⟩ => ⟨S2048x2048, .bf16⟩
  | .hbm, ⟨14, _⟩ => ⟨S1536x2048, .f32⟩
  | .hbm, ⟨15, _⟩ => ⟨S1536, .f32⟩
  | .local _ .vmem, ⟨0, _⟩ => ⟨S1x256x1536, .fp8e4m3⟩
  | .local _ .vmem, ⟨1, _⟩ => ⟨S1x256x1536, .fp8e4m3⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1536, .f32⟩
  | .local _ .vmem, ⟨7, _⟩ => ⟨S1536x2048, .fp8e4m3⟩
  | .local _ .vmem, ⟨8, _⟩ => ⟨S1x256x2048, .bf16⟩
  | .local _ .vmem, ⟨9, _⟩ => ⟨S1x256x2048, .bf16⟩
  | .local _ .vmem, ⟨10, _⟩ => ⟨S1x256x1536, .bf16⟩
  | .local _ .vmem, ⟨11, _⟩ => ⟨S1x256x1536, .bf16⟩
  | .local _ .vmem, ⟨12, _⟩ => ⟨S1x1536, .f32⟩
  | .local _ .vmem, ⟨13, _⟩ => ⟨S1536x256, .bf16⟩
  | .local _ .vmem, ⟨14, _⟩ => ⟨S1536x256, .bf16⟩
  | .local _ .vmem, ⟨15, _⟩ => ⟨S1536x2048, .bf16⟩
  | .local _ .vmem, ⟨16, _⟩ => ⟨S512x2048, .bf16⟩
  | .local _ .vmem, ⟨17, _⟩ => ⟨S512x2048, .bf16⟩
  | .local _ .vmem, ⟨18, _⟩ => ⟨S2048x512, .bf16⟩
  | .local _ .vmem, ⟨19, _⟩ => ⟨S2048x512, .bf16⟩
  | .local _ .vmem, ⟨20, _⟩ => ⟨S512x512, .f32⟩
  | .local _ .vmem, ⟨21, _⟩ => ⟨S512x512, .f32⟩
  | .local _ .smem, ⟨0, _⟩ => ⟨S12x16, .f32⟩
  | _, _ => ⟨S4x512x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S12x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1536x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F] [Named F]
def κ : String → Option EReal := fun
  | "inv_d" => some ((1 / 1536 : ℝ) : EReal)
  | _ => none
-- ==== ReferenceIdeal.lean ====
abbrev S4x512x1536 : Shape := ⟨3, ![4, 512, 1536]⟩
abbrev S4x512 : Shape := ⟨2, ![4, 512]⟩
abbrev S1536 : Shape := ⟨1, ![1536]⟩
abbrev S1536x2048 : Shape := ⟨2, ![1536, 2048]⟩
abbrev S12x16 : Shape := ⟨2, ![12, 16]⟩
abbrev S4x512x2048 : Shape := ⟨3, ![4, 512, 2048]⟩
abbrev S4x512x1 : Shape := ⟨3, ![4, 512, 1]⟩
abbrev S1x1x1536 : Shape := ⟨3, ![1, 1, 1536]⟩
abbrev S12x128x16x128 : Shape := ⟨4, ![12, 128, 16, 128]⟩
abbrev S12x1x16x1 : Shape := ⟨4, ![12, 1, 16, 1]⟩
abbrev S_ : Shape := ⟨0, ![]⟩

abbrev nBuf : Space → Nat
  | .hbm => 47
  | .vmem => 4
  | .smem => 0
  | _ => 0

abbrev bufTy : (tb : Table) → Fin (tcTables nBuf tb) → BufTy
  | .hbm, ⟨0, _⟩ => ⟨S4x512x1536, .fp8e4m3⟩
  | .hbm, ⟨1, _⟩ => ⟨S4x512, .f32⟩
  | .hbm, ⟨2, _⟩ => ⟨S4x512, .f32⟩
  | .hbm, ⟨3, _⟩ => ⟨S1536, .f32⟩
  | .hbm, ⟨4, _⟩ => ⟨S1536x2048, .fp8e4m3⟩
  | .hbm, ⟨5, _⟩ => ⟨S12x16, .f32⟩
  | .hbm, ⟨6, _⟩ => ⟨S4x512x2048, .bf16⟩
  | .hbm, ⟨7, _⟩ => ⟨S4x512x1536, .f32⟩
  | .hbm, ⟨8, _⟩ => ⟨S1536x2048, .bf16⟩
  | .hbm, ⟨9, _⟩ => ⟨S4x512x1, .f32⟩
  | .hbm, ⟨10, _⟩ => ⟨S4x512x1536, .f32⟩
  | .hbm, ⟨11, _⟩ => ⟨S4x512x1536, .f32⟩
  | .hbm, ⟨12, _⟩ => ⟨S4x512x1, .f32⟩
  | .hbm, ⟨13, _⟩ => ⟨S4x512x1536, .f32⟩
  | .hbm, ⟨14, _⟩ => ⟨S4x512x1536, .f32⟩
  | .hbm, ⟨15, _⟩ => ⟨S1x1x1536, .f32⟩
  | .hbm, ⟨16, _⟩ => ⟨S4x512x1536, .f32⟩
  | .hbm, ⟨17, _⟩ => ⟨S4x512x1536, .f32⟩
  | .hbm, ⟨18, _⟩ => ⟨S4x512x1536, .bf16⟩
  | .hbm, ⟨19, _⟩ => ⟨S1536x2048, .f32⟩
  | .hbm, ⟨20, _⟩ => ⟨S12x128x16x128, .bf16⟩
  | .hbm, ⟨21, _⟩ => ⟨S12x16, .bf16⟩
  | .hbm, ⟨22, _⟩ => ⟨S12x1x16x1, .bf16⟩
  | .hbm, ⟨23, _⟩ => ⟨S12x128x16x128, .bf16⟩
  | .hbm, ⟨24, _⟩ => ⟨S12x128x16x128, .bf16⟩
  | .hbm, ⟨25, _⟩ => ⟨S1536x2048, .bf16⟩
  | .hbm, ⟨26, _⟩ => ⟨S4x512x1536, .f32⟩
  | .hbm, ⟨27, _⟩ => ⟨S4x512x1536, .f32⟩
  | .hbm, ⟨28, _⟩ => ⟨S_, .f32⟩
  | .hbm, ⟨29, _⟩ => ⟨S1536, .f32⟩
  | .hbm, ⟨30, _⟩ => ⟨S1x1x1536, .f32⟩
  | .hbm, ⟨31, _⟩ => ⟨S4x512x1536, .f32⟩
  | .hbm, ⟨32, _⟩ => ⟨S4x512x1536, .f32⟩
  | .hbm, ⟨33, _⟩ => ⟨S4x512x1, .f32⟩
  | .hbm, ⟨34, _⟩ => ⟨S4x512x1536, .f32⟩
  | .hbm, ⟨35, _⟩ => ⟨S_, .f32⟩
  | .hbm, ⟨36, _⟩ => ⟨S4x512, .f32⟩
  | .hbm, ⟨37, _⟩ => ⟨S4x512x1, .f32⟩
  | .hbm, ⟨38, _⟩ => ⟨S_, .f32⟩
  | .hbm, ⟨39, _⟩ => ⟨S4x512x1, .f32⟩
  | .hbm, ⟨40, _⟩ => ⟨S4x512x1, .f32⟩
  | .hbm, ⟨41, _⟩ => ⟨S4x512x1536, .f32⟩
  | .hbm, ⟨42, _⟩ => ⟨S4x512x1536, .f32⟩
  | .hbm, ⟨43, _⟩ => ⟨S4x512x1536, .f32⟩
  | .hbm, ⟨44, _⟩ => ⟨S4x512x1536, .f32⟩
  | .hbm, ⟨45, _⟩ => ⟨S4x512x1536, .f32⟩
  | .hbm, ⟨46, _⟩ => ⟨S4x512x1536, .bf16⟩
  | .local _ .vmem, ⟨0, _⟩ => ⟨S4x512x1536, .fp8e4m3⟩
  | .local _ .vmem, ⟨1, _⟩ => ⟨S1536x2048, .fp8e4m3⟩
  | .local _ .vmem, ⟨2, _⟩ => ⟨S4x512x1536, .f32⟩
  | .local _ .vmem, ⟨3, _⟩ => ⟨S1536x2048, .bf16⟩
  | _, _ => ⟨S4x512x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x512x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Runs.lean ====
/- What the runs of the first kernel's body share: the blocks its windows read, the branch conditions in closed form, the staging memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_1, e0]
    word_cmp
   : ∀ t : Fin grid0.N, cond0_1 (grid0.coords t) ↔ t.val % 8 = 0)

/-! ## The kernel body on any staging memrefs: a subtype the run finds -/

/-- One staging buffer of output window 7, through which its contents are stated (`View.read_writes_of_cover`: the
    choice does not matter). -/
abbrev VO0_7 : View sig .tc .vmem S1x256x1536 .bf16 := (Memref.whole cc0_stg7_0 : Memref sig .tc .vmem S1x256x1536 .bf16).view
/-- One staging buffer of output window 8, through which its contents are stated (`View.read_writes_of_cover`: the
    choice does not matter). -/
abbrev VO0_8 : View sig .tc .vmem S1x1536 .f32 := (Memref.whole cc0_stg8_0 : Memref sig .tc .vmem S1x1536 .f32).view
/-- One staging buffer of output window 9, through which its contents are stated (`View.read_writes_of_cover`: the
    choice does not matter). -/
abbrev VO0_9 : View sig .tc .vmem S1536x256 .bf16 := (Memref.whole cc0_stg9_0 : Memref sig .tc .vmem S1536x256 .bf16).view
/-- Each window's current staging memref at point `t`, spelled as the pipeline passes it (`bodyAt0`), and its wholeness. -/
abbrev ms0_0 (t : Fin cfg0.N) : Memref sig .tc .vmem S1x256x1536 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S12x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x1536 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x256 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1536x2048 .bf16 := Memref.whole cc0_scratch0
/-- The scratch `arg11` the kernel carries between points, as a view: what it holds is stated through it. -/
abbrev VS0_0 : View sig .tc .vmem S1536x2048 .bf16 := scM0_0.view

/-- What the region passes along untouched: the second region's staging buffers at some contents, and the generator register. -/
def Gx (c : Dev nD) : sProp 𝕄 := iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r))

/-- Separating conjunction regroups to the right. -/
theorem sep_regroup {M : Type _} [RA M] (P Q R : sProp M) : iprop((P ∗ Q) ∗ R) = iprop(P ∗ Q ∗ R) := equiv_iff.mp ⟨BI.sep_assoc, BI.sep_assoc'⟩

/-- The region's invariant before the first point: the scratch at some contents, beside what the body never touches. -/
theorem PhiA0_eq (c : Dev nD) :
    (Pipeline.ΦA spec0 c : sProp 𝕄) = iprop((∃ d, owns (c : Thread nD τ) scM0_0 fullShare d) ∗ Gx c) := by
  unfold Pipeline.ΦA Gx; rw [scopedRest0_eq, sep_regroup]; simp only [scM0_0, owns_whole]; rfl

end Cert.Kernel.Hand

end
-- ==== Proof.Kernel.RunA.lean ====
/- The first kernel's body at the first grid point: it fills the scratch with the weights, clears the sum, and computes. -/
module

public import proofs.«01_k».proof.Proof.Kernel.Runs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 4432000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) :
    Σ' (L7 : List (View.Piece (Elt F) S1x256x1536 .bf16)), Σ' (L8 : List (View.Piece (Elt F) S1x1536 .f32)), Σ' (L9 : List (View.Piece (Elt F) S1536x256 .bf16)), { LS0 : List (View.Piece (Elt F) S1536x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_dx_pass i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_dx_pass_eq_skeleton]; unfold cc0_dx_pass_skel
    simp only [k0_part59_eq_skeleton, k0_part58_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS0

end Cert.Kernel.Hand

end
-- ==== Proof.Kernel.RunB.lean ====
/- The first kernel's body at a later grid point: it reads the scratch the first point left. -/
module

public import proofs.«01_k».proof.Proof.Kernel.RunA

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 7: 7 of 8), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) :
    Σ' (L7 : List (View.Piece (Elt F) S1x256x1536 .bf16)), Σ' (L8 : List (View.Piece (Elt F) S1x1536 .f32)), Σ' (L9 : List (View.Piece (Elt F) S1536x256 .bf16)), { LS0 : List (View.Piece (Elt F) S1536x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0) -∗ K ⟨⟩))
          ⊢ wp frame (wpE (defs₀ (F := F)) Variants.none c none) E (cc0_dx_pass i arg1 harg1 arg2 harg2 arg3 harg3 arg4 harg4 arg5 harg5 arg6 harg6 arg7 harg7 arg8 harg8 arg9 harg9 arg10 harg10 arg11 harg11) K } := by
  refine ⟨?_, ?_, ?_, [], fun E K => ?run⟩
  case run =>
    simp only [cc0_dx_pass_eq_skeleton]; unfold cc0_dx_pass_skel
    simp only [k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; isplitr; · ipureintro; exact harg11.read_unread _
    iexact HS0

end Cert.Kernel.Hand

end
-- ==== Proof.Kernel.Region0.lean ====
/- The first kernel at every grid point: what its outputs and its scratch hold, and that the pipeline's obligation holds. -/
module

public import proofs.«01_k».proof.Proof.Kernel.RunB
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for output 7 tile its block (1 store of `S1x256x1536`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (y : S1x256x1536.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1 S1x256x1536.size (by sl_kernel_rfl) y

/-- What case A leaves in output 7's staging buffer: its pieces read back over junk. -/
def out0_A_7 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) : Vec F S1x256x1536 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1)

/-- Case A's pieces for output 8 tile its block (2 stores of `S1x1536`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (y : S1x1536.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 S1x1536.size (by sl_kernel_rfl) y

/-- What case A leaves in output 8's staging buffer: its pieces read back over junk. -/
def out0_A_8 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) : Vec F S1x1536 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.1)

/-- Case A's pieces for output 9 tile its block (1 store of `S1536x256`, checked by the kernel's evaluation: Lib/Ring.lean `Piece.tiledL`, linear in the pieces, through a loop's `@[irreducible]` trip theorem too), so they cover it. -/
theorem cover0_A_9 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1 S1536x256.size (by sl_kernel_rfl) y

/-- What case A leaves in output 9's staging buffer: its pieces read back over junk. -/
def out0_A_9 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) : Vec F S1536x256 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1)

/-- Case A's pieces for scratch `arg11`, which the kernel carries between points, cover it: 192 pieces of `S128x128` tiling it (Lib/Ring.lean `Piece.tiledL`). -/
theorem scover0_A_0 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (y : S1536x2048.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.2.1 S128x128.size (by sl_kernel_rfl) y

/-- What case A leaves in scratch `arg11`: its pieces read back over junk. -/
def sout0_A_0 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) : Vec F S1536x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.2.1)

/-- Case B's pieces for output 7 tile its block (1 store of `S1x256x1536`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) (y : S1x256x1536.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).1 S1x256x1536.size (by sl_kernel_rfl) y

/-- What case B leaves in output 7's staging buffer: its pieces read back over junk. -/
def out0_B_7 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) : Vec F S1x256x1536 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).1)

/-- Case B's pieces for output 8 tile its block (1 store of `S1x1536`, checked by the kernel's evaluation: Lib/Ring.lean `Piece.tiledL`, linear in the pieces, through a loop's `@[irreducible]` trip theorem too), so they cover it. -/
theorem cover0_B_8 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) (y : S1x1536.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.1 S1x1536.size (by sl_kernel_rfl) y

/-- What case B leaves in output 8's staging buffer: its pieces read back over junk. -/
def out0_B_8 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) : Vec F S1x1536 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.1)

/-- Case B's pieces for output 9 tile its block (1 store of `S1536x256`, checked by the kernel's evaluation: Lib/Ring.lean `Piece.tiledL`, linear in the pieces, through a loop's `@[irreducible]` trip theorem too), so they cover it. -/
theorem cover0_B_9 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) (y : S1536x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.2.1 S1536x256.size (by sl_kernel_rfl) y

/-- What case B leaves in output 9's staging buffer: its pieces read back over junk. -/
def out0_B_9 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) : Vec F S1536x256 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.2.1)

/-- Case B stores nothing into scratch `arg11`: it holds what the point before left. -/
def sout0_B_0 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) : Vec F S1536x2048 .bf16 := xs0

section

variable (V : (c : Dev nD) → (b : Ref sig .tc) → Buf (Elt F) ((c : Thread nD τ).loc b))

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1536 .bf16 × Vec F S1x1536 .f32 × Vec F S1536x256 .bf16 × Vec F S1536x2048 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 8 = 0 then
      if h1 : (n + 1) % 8 = 0 then
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
      else
        False.elim (by have hN : n + 1 < 8 := lt_of_lt_of_eq hn (show cfg0.N = 8 from N_0); omega)
    else
      if h1 : (n + 1) % 8 = 0 then
        False.elim (by have hN : n + 1 < 8 := lt_of_lt_of_eq hn (show cfg0.N = 8 from N_0); omega)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2.2)

/-- `outsAt0` at a point of case A: that case's contents. -/
theorem outsAt0_A (c : Dev nD) (t : Fin cfg0.N) (h0 : t.val % 8 = 0) (h1 : t.val % 8 = 0) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 8 = 0) (h1 : ¬t.val % 8 = 0) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2)) ∗ Gx c)

/-- Before the first point the carried state is the plain initial one. -/
theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2.2)) ∗ Gx c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2)) ∗ Gx c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
/-- After each point, input window 1 of pass 0 still holds its input block. -/
theorem after0_1 (c : Dev nD) (t : Fin cfg0.N) : (dat0 V c).after 1 t = iblk0 V c 1 t := by dsimp only [dat0]
/-- After each point, input window 2 of pass 0 still holds its input block. -/
theorem after0_2 (c : Dev nD) (t : Fin cfg0.N) : (dat0 V c).after 2 t = iblk0 V c 2 t := by dsimp only [dat0]
/-- After each point, input window 3 of pass 0 still holds its input block. -/
theorem after0_3 (c : Dev nD) (t : Fin cfg0.N) : (dat0 V c).after 3 t = iblk0 V c 3 t := by dsimp only [dat0]
/-- After each point, input window 4 of pass 0 still holds its input block. -/
theorem after0_4 (c : Dev nD) (t : Fin cfg0.N) : (dat0 V c).after 4 t = iblk0 V c 4 t := by dsimp only [dat0]
/-- After each point, input window 5 of pass 0 still holds its input block. -/
theorem after0_5 (c : Dev nD) (t : Fin cfg0.N) : (dat0 V c).after 5 t = iblk0 V c 5 t := by dsimp only [dat0]
/-- After each point, input window 6 of pass 0 still holds its input block. -/
theorem after0_6 (c : Dev nD) (t : Fin cfg0.N) : (dat0 V c).after 6 t = iblk0 V c 6 t := by dsimp only [dat0]
/-- After each point, output window 7 of pass 0 holds the block that point's body computed. -/
theorem after0_7 (c : Dev nD) (t : Fin cfg0.N) : (dat0 V c).after 7 t = (outsAt0 V c t.val t.isLt).1 := by dsimp only [dat0]
/-- After each point, output window 8 of pass 0 holds the block that point's body computed. -/
theorem after0_8 (c : Dev nD) (t : Fin cfg0.N) : (dat0 V c).after 8 t = (outsAt0 V c t.val t.isLt).2.1 := by dsimp only [dat0]
/-- After each point, output window 9 of pass 0 holds the block that point's body computed. -/
theorem after0_9 (c : Dev nD) (t : Fin cfg0.N) : (dat0 V c).after 9 t = (outsAt0 V c t.val t.isLt).2.2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq V c 0) (after0_0 V c) t d
/-- Before each point, window 1 of pass 0 holds the point's input block. -/
theorem before0_1 (c : Dev nD) (t : Fin cfg0.N) (d) : (dat0 V c).before 1 t d = iblk0 V c 1 t :=
  before0_1_of V (dat0 V c) (A_eq V c 1) (after0_1 V c) t d
/-- Before each point, window 2 of pass 0 holds the point's input block. -/
theorem before0_2 (c : Dev nD) (t : Fin cfg0.N) (d) : (dat0 V c).before 2 t d = iblk0 V c 2 t :=
  before0_2_of V (dat0 V c) (A_eq V c 2) (after0_2 V c) t d
/-- Before each point, window 3 of pass 0 holds the point's input block. -/
theorem before0_3 (c : Dev nD) (t : Fin cfg0.N) (d) : (dat0 V c).before 3 t d = iblk0 V c 3 t :=
  before0_3_of V (dat0 V c) (A_eq V c 3) (after0_3 V c) t d
/-- Before each point, window 4 of pass 0 holds the point's input block. -/
theorem before0_4 (c : Dev nD) (t : Fin cfg0.N) (d) : (dat0 V c).before 4 t d = iblk0 V c 4 t :=
  before0_4_of V (dat0 V c) (A_eq V c 4) (after0_4 V c) t d
/-- Before each point, window 5 of pass 0 holds the point's input block. -/
theorem before0_5 (c : Dev nD) (t : Fin cfg0.N) (d) : (dat0 V c).before 5 t d = iblk0 V c 5 t :=
  before0_5_of V (dat0 V c) (A_eq V c 5) (after0_5 V c) t d
/-- Before each point, window 6 of pass 0 holds the point's input block. -/
theorem before0_6 (c : Dev nD) (t : Fin cfg0.N) (d) : (dat0 V c).before 6 t d = iblk0 V c 6 t :=
  before0_6_of V (dat0 V c) (A_eq V c 6) (after0_6 V c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 8 = 0) (h1 : ¬t.val % 8 = 0) (d) :
    (dat0 V c).before 8 t d = (outsAt0 V c (t.val - 1) (Nat.lt_of_le_of_lt (Nat.sub_le _ _) t.isLt)).2.1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8, after0_9]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · by_cases h1 : t.val % 8 = 0
    · by_cases hz : t.val = 0
      · rw [PhiS_castSucc V c t, PhiS_zero V c _ _ hz, PhiA0_eq]
        rw [outsAt0_A V c t h0 h1]
        unfold out0_A_7 out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) ((hcond0_1 t).mpr h1) (iblk0 V c 0 t) (iblk0 V c 1 t) (iblk0 V c 2 t) (iblk0 V c 3 t) (iblk0 V c 4 t) (iblk0 V c 5 t) (iblk0 V c 6 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        iintro ⟨H0, H1, H2, H3, H4, H5, H6, ⟨%e7, H7⟩, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _)
      · exfalso; have hN : t.val < 8 := lt_of_lt_of_eq t.isLt (show cfg0.N = 8 from N_0); omega
    · exfalso; omega
  · by_cases h1 : t.val % 8 = 0
    · exfalso; omega
    · by_cases hz : t.val = 0
      · exfalso; have hN : t.val < 8 := lt_of_lt_of_eq t.isLt (show cfg0.N = 8 from N_0); omega
      · rw [PhiS_castSucc V c t, PhiS_pos V c _ _ hz]
        rw [outsAt0_B V c t h0 h1]
        simp only [before0_8_B V c t h0 h1]
        unfold out0_B_7 out0_B_8 out0_B_9 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexists _; iexact H9
        isplitl [HS0]; · iexact HS0
        iintro ⟨H0, H1, H2, H3, H4, H5, H6, ⟨%e7, H7⟩, ⟨%e8, H8⟩, ⟨%e9, H9⟩, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat0 (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat0 V c).Φ (Fin.last cfg0.N) ⊢ Pipeline.ΦA spec0 c :=
  Phi_out V c _ (by rw [Fin.val_last]; have : cfg0.N = 8 := N_0; omega)

end

end Cert.Kernel.Hand

end
-- ==== Proof.Kernel.Region1.lean ====
/- The second kernel at every grid point: one block of the weight gradient, a product of two blocks. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x2048 := Rect.unit (s := S512x2048) ![0, 0] S512x2048.size inb_S512x2048_S512x2048_0_0
abbrev r1_1 : Rect S2048x512 := Rect.unit (s := S2048x512) ![0, 0] S2048x512.size inb_S2048x512_S2048x512_0_0
abbrev r1_2 : Rect S512x512 := Rect.unit (s := S512x512) ![0, 0] S512x512.size inb_S512x512_S512x512_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S512x2048 .bf16) (x1 : Vec F S2048x512 .bf16) : Vec F S512x512 .f32 :=
  View.canon [⟨r1_2, k1_pay1 (View.ld x0 r1_0) (View.ld x1 r1_1)⟩]

/-- Its stores tile the buffer (checked by evaluation), so they cover it. -/
theorem cover1_2 (p0 : Vec F S512x512 .f32) (y : S512x512.Idx) :
    ∃ pc ∈ ([⟨r1_2, p0⟩] : List (View.Piece (Elt F) S512x512 .f32)), y ∈ pc.1.set :=
  View.cover_of_tiled [⟨r1_2, p0⟩] S512x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S512x2048 .bf16) (harg2 : arg2.IsWhole) (arg3 : Memref sig .tc .vmem S2048x512 .bf16) (harg3 : arg3.IsWhole) (arg4 : Memref sig .tc .vmem S512x512 .f32) (harg4 : arg4.IsWhole)
    (x0 : Vec F S512x2048 .bf16) (x1 : Vec F S2048x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_dw_pass i arg2 harg2 arg3 harg3 arg4 harg4) K := by
  simp only [cc1_dw_pass_eq_skeleton]; unfold cc1_dw_pass_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- After each point, input window 1 of pass 1 still holds its input block. -/
theorem after1_1 (c : Dev nD) (t : Fin cfg1.N) : (dat1 V c).after 1 t = iblk1 V c 1 t := by dsimp only [dat1]
/-- After each point, output window 2 of pass 1 holds the block that point's body computed. -/
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- Before each point, window 1 of pass 1 holds the point's input block. -/
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end

end Cert.Kernel.Hand

end
-- ==== Proof.Kernel.Run.lean ====
/- The whole of @main: the host stretches and the two kernels in order, what every buffer holds at each boundary, the run and the frame. -/
module

public import proofs.«01_k».proof.Proof.Kernel.Region0
public import proofs.«01_k».proof.Proof.Kernel.Region1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
/-- Every host operation of group 0 writes only buffers of its listed write set. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4]
/-- Every host operation of group 1 writes only buffers of its listed write set. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6]
/-- Every host operation of group 2 writes only buffers of its listed write set. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At stage 0 of the program every argument still holds its initial contents. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At stage 1 of the program every argument still holds its initial contents. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- At stage 2 each array of the pass just run holds that pass's final contents. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The pass leading to stage 2 leaves every buffer that is none of its arrays unchanged. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- At stage 2 of the program every argument still holds its initial contents. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Pass 0 changes no buffer outside its arrays. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- At stage 3 of the program every argument still holds its initial contents. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- At stage 4 each array of the pass just run holds that pass's final contents. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- The pass leading to stage 4 leaves every buffer that is none of its arrays unchanged. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- At stage 4 of the program every argument still holds its initial contents. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- Pass 1 changes no buffer outside its arrays. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- At stage 5 of the program every argument still holds its initial contents. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
/-- At the end argument 1 still holds its initial contents. -/
theorem W5_main_arg1 (c : Dev nD) : W5 m ρ c (Proc.devRef .tc main_arg1) = m ((c : Thread nD τ).loc main_arg1) :=
  W5_args m ρ c main_arg1 (by decide)
/-- At the end argument 2 still holds its initial contents. -/
theorem W5_main_arg2 (c : Dev nD) : W5 m ρ c (Proc.devRef .tc main_arg2) = m ((c : Thread nD τ).loc main_arg2) :=
  W5_args m ρ c main_arg2 (by decide)
/-- At the end argument 3 still holds its initial contents. -/
theorem W5_main_arg3 (c : Dev nD) : W5 m ρ c (Proc.devRef .tc main_arg3) = m ((c : Thread nD τ).loc main_arg3) :=
  W5_args m ρ c main_arg3 (by decide)
/-- At the end argument 4 still holds its initial contents. -/
theorem W5_main_arg4 (c : Dev nD) : W5 m ρ c (Proc.devRef .tc main_arg4) = m ((c : Thread nD τ).loc main_arg4) :=
  W5_args m ρ c main_arg4 (by decide)
/-- At the end argument 5 still holds its initial contents. -/
theorem W5_main_arg5 (c : Dev nD) : W5 m ρ c (Proc.devRef .tc main_arg5) = m ((c : Thread nD τ).loc main_arg5) :=
  W5_args m ρ c main_arg5 (by decide)
/-- At the end argument 6 still holds its initial contents. -/
theorem W5_main_arg6 (c : Dev nD) : W5 m ρ c (Proc.devRef .tc main_arg6) = m ((c : Thread nD τ).loc main_arg6) :=
  W5_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    rw [Pipeline.ownSems0_none]
    have h := hout (V1 m ρ) c
    unfold Pipeline.ΦA at h
    rw [show (pdats m ρ 0 c).Φ (Fin.last _) = (dat0 (V1 m ρ) c).Φ (Fin.last cfg0.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters every weakly fair execution of @main terminates, and at the end every unscoped
    buffer of every core holds the last boundary's contents and every semaphore counter is zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: @main runs, the arguments end as launched, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩, h.2⟩) (run_all m ρ)

end Cert.Kernel.Hand

end
-- ==== Proof.KernelIdeal.Runs.lean ====
/- What the runs of the first kernel's body share: the blocks its windows read, the branch conditions in closed form, the staging memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_1, e0]
    word_cmp
   : ∀ t : Fin grid0.N, cond0_1 (grid0.coords t) ↔ t.val % 8 = 0)

/-! ## The kernel body on any staging memrefs: a subtype the run finds -/

/-- One staging buffer of output window 7, through which its contents are stated (`View.read_writes_of_cover`: the
    choice does not matter). -/
abbrev VO0_7 : View sig .tc .vmem S1x256x1536 .bf16 := (Memref.whole cc0_stg7_0 : Memref sig .tc .vmem S1x256x1536 .bf16).view
/-- One staging buffer of output window 8, through which its contents are stated (`View.read_writes_of_cover`: the
    choice does not matter). -/
abbrev VO0_8 : View sig .tc .vmem S1x1536 .f32 := (Memref.whole cc0_stg8_0 : Memref sig .tc .vmem S1x1536 .f32).view
/-- One staging buffer of output window 9, through which its contents are stated (`View.read_writes_of_cover`: the
    choice does not matter). -/
abbrev VO0_9 : View sig .tc .vmem S1536x256 .bf16 := (Memref.whole cc0_stg9_0 : Memref sig .tc .vmem S1536x256 .bf16).view
/-- Each window's current staging memref at point `t`, spelled as the pipeline passes it (`bodyAt0`), and its wholeness. -/
abbrev ms0_0 (t : Fin cfg0.N) : Memref sig .tc .vmem S1x256x1536 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S12x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x1536 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x256 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1536x2048 .bf16 := Memref.whole cc0_scratch0
/-- The scratch `arg11` the kernel carries between points, as a view: what it holds is stated through it. -/
abbrev VS0_0 : View sig .tc .vmem S1536x2048 .bf16 := scM0_0.view

/-- What the region passes along untouched: the second region's staging buffers at some contents, and the generator register. -/
def Gx (c : Dev nD) : sProp 𝕄 := iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r))

/-- Separating conjunction regroups to the right. -/
theorem sep_regroup {M : Type _} [RA M] (P Q R : sProp M) : iprop((P ∗ Q) ∗ R) = iprop(P ∗ Q ∗ R) := equiv_iff.mp ⟨BI.sep_assoc, BI.sep_assoc'⟩

/-- The region's invariant before the first point: the scratch at some contents, beside what the body never touches. -/
theorem PhiA0_eq (c : Dev nD) :
    (Pipeline.ΦA spec0 c : sProp 𝕄) = iprop((∃ d, owns (c : Thread nD τ) scM0_0 fullShare d) ∗ Gx c) := by
  unfold Pipeline.ΦA Gx; rw [scopedRest0_eq, sep_regroup]; simp only [scM0_0, owns_whole]; rfl

end Cert.KernelIdeal.Hand

end
-- ==== Proof.KernelIdeal.RunA.lean ====
/- The first kernel's body at the first grid point: it fills the scratch with the weights, clears the sum, and computes. -/
module

public import proofs.«01_k».proof.Proof.KernelIdeal.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 4432000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) :
    Σ' (L7 : List (View.Piece (Elt F) S1x256x1536 .bf16)), Σ' (L8 : List (View.Piece (Elt F) S1x1536 .f32)), Σ' (L9 : List (View.Piece (Elt F) S1536x256 .bf16)), { LS0 : List (View.Piece (Elt F) S1536x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_dx_pass i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_dx_pass_eq_skeleton]; unfold cc0_dx_pass_skel
    simp only [k0_part59_eq_skeleton, k0_part58_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS0

end Cert.KernelIdeal.Hand

end
-- ==== Proof.KernelIdeal.RunB.lean ====
/- The first kernel's body at a later grid point: it reads the scratch the first point left. -/
module

public import proofs.«01_k».proof.Proof.KernelIdeal.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 7: 7 of 8), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) :
    Σ' (L7 : List (View.Piece (Elt F) S1x256x1536 .bf16)), Σ' (L8 : List (View.Piece (Elt F) S1x1536 .f32)), Σ' (L9 : List (View.Piece (Elt F) S1536x256 .bf16)), { LS0 : List (View.Piece (Elt F) S1536x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0) -∗ K ⟨⟩))
          ⊢ wp frame (wpE (defs₀ (F := F)) Variants.none c none) E (cc0_dx_pass i arg1 harg1 arg2 harg2 arg3 harg3 arg4 harg4 arg5 harg5 arg6 harg6 arg7 harg7 arg8 harg8 arg9 harg9 arg10 harg10 arg11 harg11) K } := by
  refine ⟨?_, ?_, ?_, [], fun E K => ?run⟩
  case run =>
    simp only [cc0_dx_pass_eq_skeleton]; unfold cc0_dx_pass_skel
    simp only [k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; isplitr; · ipureintro; exact harg11.read_unread _
    iexact HS0

end Cert.KernelIdeal.Hand

end
-- ==== Proof.KernelIdeal.Region0.lean ====
/- The first kernel at every grid point: what its outputs and its scratch hold, and that the pipeline's obligation holds. -/
module

public import proofs.«01_k».proof.Proof.KernelIdeal.RunB
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Case A's pieces for output 7 tile its block (1 store of `S1x256x1536`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (y : S1x256x1536.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1 S1x256x1536.size (by sl_kernel_rfl) y

/-- What case A leaves in output 7's staging buffer: its pieces read back over junk. -/
def out0_A_7 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) : Vec F S1x256x1536 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1)

/-- Case A's pieces for output 8 tile its block (2 stores of `S1x1536`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (y : S1x1536.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.1 S1x1536.size (by sl_kernel_rfl) y

/-- What case A leaves in output 8's staging buffer: its pieces read back over junk. -/
def out0_A_8 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) : Vec F S1x1536 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.1)

/-- Case A's pieces for output 9 tile its block (1 store of `S1536x256`, checked by the kernel's evaluation: Lib/Ring.lean `Piece.tiledL`, linear in the pieces, through a loop's `@[irreducible]` trip theorem too), so they cover it. -/
theorem cover0_A_9 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1 S1536x256.size (by sl_kernel_rfl) y

/-- What case A leaves in output 9's staging buffer: its pieces read back over junk. -/
def out0_A_9 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) : Vec F S1536x256 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1)

/-- Case A's pieces for scratch `arg11`, which the kernel carries between points, cover it: 192 pieces of `S128x128` tiling it (Lib/Ring.lean `Piece.tiledL`). -/
theorem scover0_A_0 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (y : S1536x2048.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.2.1 S128x128.size (by sl_kernel_rfl) y

/-- What case A leaves in scratch `arg11`: its pieces read back over junk. -/
def sout0_A_0 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) : Vec F S1536x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.2.1)

/-- Case B's pieces for output 7 tile its block (1 store of `S1x256x1536`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) (y : S1x256x1536.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).1 S1x256x1536.size (by sl_kernel_rfl) y

/-- What case B leaves in output 7's staging buffer: its pieces read back over junk. -/
def out0_B_7 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) : Vec F S1x256x1536 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).1)

/-- Case B's pieces for output 8 tile its block (1 store of `S1x1536`, checked by the kernel's evaluation: Lib/Ring.lean `Piece.tiledL`, linear in the pieces, through a loop's `@[irreducible]` trip theorem too), so they cover it. -/
theorem cover0_B_8 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) (y : S1x1536.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.1 S1x1536.size (by sl_kernel_rfl) y

/-- What case B leaves in output 8's staging buffer: its pieces read back over junk. -/
def out0_B_8 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) : Vec F S1x1536 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.1)

/-- Case B's pieces for output 9 tile its block (1 store of `S1536x256`, checked by the kernel's evaluation: Lib/Ring.lean `Piece.tiledL`, linear in the pieces, through a loop's `@[irreducible]` trip theorem too), so they cover it. -/
theorem cover0_B_9 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) (y : S1536x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.2.1 S1536x256.size (by sl_kernel_rfl) y

/-- What case B leaves in output 9's staging buffer: its pieces read back over junk. -/
def out0_B_9 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) : Vec F S1536x256 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo8 xs0).2.2.1)

/-- Case B stores nothing into scratch `arg11`: it holds what the point before left. -/
def sout0_B_0 (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : ¬cond0_0 i) (hc1 : ¬cond0_1 i)
    (x0 : Vec F S1x256x1536 .fp8e4m3) (x1 : Vec F S1x1x256 .f32) (x2 : Vec F S1x1x256 .f32) (x3 : Vec F S1x1536 .f32) (x4 : Vec F S1536x2048 .fp8e4m3) (x5 : Vec F S12x16 .f32) (x6 : Vec F S1x256x2048 .bf16) (xo8 : Vec F S1x1536 .f32) (xs0 : Vec F S1536x2048 .bf16) : Vec F S1536x2048 .bf16 := xs0

section

variable (V : (c : Dev nD) → (b : Ref sig .tc) → Buf (Elt F) ((c : Thread nD τ).loc b))

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1536 .bf16 × Vec F S1x1536 .f32 × Vec F S1536x256 .bf16 × Vec F S1536x2048 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 8 = 0 then
      if h1 : (n + 1) % 8 = 0 then
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
      else
        False.elim (by have hN : n + 1 < 8 := lt_of_lt_of_eq hn (show cfg0.N = 8 from N_0); omega)
    else
      if h1 : (n + 1) % 8 = 0 then
        False.elim (by have hN : n + 1 < 8 := lt_of_lt_of_eq hn (show cfg0.N = 8 from N_0); omega)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2.2)

/-- `outsAt0` at a point of case A: that case's contents. -/
theorem outsAt0_A (c : Dev nD) (t : Fin cfg0.N) (h0 : t.val % 8 = 0) (h1 : t.val % 8 = 0) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 8 = 0) (h1 : ¬t.val % 8 = 0) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2)) ∗ Gx c)

/-- Before the first point the carried state is the plain initial one. -/
theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2.2)) ∗ Gx c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2)) ∗ Gx c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
/-- After each point, input window 1 of pass 0 still holds its input block. -/
theorem after0_1 (c : Dev nD) (t : Fin cfg0.N) : (dat0 V c).after 1 t = iblk0 V c 1 t := by dsimp only [dat0]
/-- After each point, input window 2 of pass 0 still holds its input block. -/
theorem after0_2 (c : Dev nD) (t : Fin cfg0.N) : (dat0 V c).after 2 t = iblk0 V c 2 t := by dsimp only [dat0]
/-- After each point, input window 3 of pass 0 still holds its input block. -/
theorem after0_3 (c : Dev nD) (t : Fin cfg0.N) : (dat0 V c).after 3 t = iblk0 V c 3 t := by dsimp only [dat0]
/-- After each point, input window 4 of pass 0 still holds its input block. -/
theorem after0_4 (c : Dev nD) (t : Fin cfg0.N) : (dat0 V c).after 4 t = iblk0 V c 4 t := by dsimp only [dat0]
/-- After each point, input window 5 of pass 0 still holds its input block. -/
theorem after0_5 (c : Dev nD) (t : Fin cfg0.N) : (dat0 V c).after 5 t = iblk0 V c 5 t := by dsimp only [dat0]
/-- After each point, input window 6 of pass 0 still holds its input block. -/
theorem after0_6 (c : Dev nD) (t : Fin cfg0.N) : (dat0 V c).after 6 t = iblk0 V c 6 t := by dsimp only [dat0]
/-- After each point, output window 7 of pass 0 holds the block that point's body computed. -/
theorem after0_7 (c : Dev nD) (t : Fin cfg0.N) : (dat0 V c).after 7 t = (outsAt0 V c t.val t.isLt).1 := by dsimp only [dat0]
/-- After each point, output window 8 of pass 0 holds the block that point's body computed. -/
theorem after0_8 (c : Dev nD) (t : Fin cfg0.N) : (dat0 V c).after 8 t = (outsAt0 V c t.val t.isLt).2.1 := by dsimp only [dat0]
/-- After each point, output window 9 of pass 0 holds the block that point's body computed. -/
theorem after0_9 (c : Dev nD) (t : Fin cfg0.N) : (dat0 V c).after 9 t = (outsAt0 V c t.val t.isLt).2.2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq V c 0) (after0_0 V c) t d
/-- Before each point, window 1 of pass 0 holds the point's input block. -/
theorem before0_1 (c : Dev nD) (t : Fin cfg0.N) (d) : (dat0 V c).before 1 t d = iblk0 V c 1 t :=
  before0_1_of V (dat0 V c) (A_eq V c 1) (after0_1 V c) t d
/-- Before each point, window 2 of pass 0 holds the point's input block. -/
theorem before0_2 (c : Dev nD) (t : Fin cfg0.N) (d) : (dat0 V c).before 2 t d = iblk0 V c 2 t :=
  before0_2_of V (dat0 V c) (A_eq V c 2) (after0_2 V c) t d
/-- Before each point, window 3 of pass 0 holds the point's input block. -/
theorem before0_3 (c : Dev nD) (t : Fin cfg0.N) (d) : (dat0 V c).before 3 t d = iblk0 V c 3 t :=
  before0_3_of V (dat0 V c) (A_eq V c 3) (after0_3 V c) t d
/-- Before each point, window 4 of pass 0 holds the point's input block. -/
theorem before0_4 (c : Dev nD) (t : Fin cfg0.N) (d) : (dat0 V c).before 4 t d = iblk0 V c 4 t :=
  before0_4_of V (dat0 V c) (A_eq V c 4) (after0_4 V c) t d
/-- Before each point, window 5 of pass 0 holds the point's input block. -/
theorem before0_5 (c : Dev nD) (t : Fin cfg0.N) (d) : (dat0 V c).before 5 t d = iblk0 V c 5 t :=
  before0_5_of V (dat0 V c) (A_eq V c 5) (after0_5 V c) t d
/-- Before each point, window 6 of pass 0 holds the point's input block. -/
theorem before0_6 (c : Dev nD) (t : Fin cfg0.N) (d) : (dat0 V c).before 6 t d = iblk0 V c 6 t :=
  before0_6_of V (dat0 V c) (A_eq V c 6) (after0_6 V c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 8 = 0) (h1 : ¬t.val % 8 = 0) (d) :
    (dat0 V c).before 8 t d = (outsAt0 V c (t.val - 1) (Nat.lt_of_le_of_lt (Nat.sub_le _ _) t.isLt)).2.1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8, after0_9]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · by_cases h1 : t.val % 8 = 0
    · by_cases hz : t.val = 0
      · rw [PhiS_castSucc V c t, PhiS_zero V c _ _ hz, PhiA0_eq]
        rw [outsAt0_A V c t h0 h1]
        unfold out0_A_7 out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) ((hcond0_1 t).mpr h1) (iblk0 V c 0 t) (iblk0 V c 1 t) (iblk0 V c 2 t) (iblk0 V c 3 t) (iblk0 V c 4 t) (iblk0 V c 5 t) (iblk0 V c 6 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        iintro ⟨H0, H1, H2, H3, H4, H5, H6, ⟨%e7, H7⟩, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _)
      · exfalso; have hN : t.val < 8 := lt_of_lt_of_eq t.isLt (show cfg0.N = 8 from N_0); omega
    · exfalso; omega
  · by_cases h1 : t.val % 8 = 0
    · exfalso; omega
    · by_cases hz : t.val = 0
      · exfalso; have hN : t.val < 8 := lt_of_lt_of_eq t.isLt (show cfg0.N = 8 from N_0); omega
      · rw [PhiS_castSucc V c t, PhiS_pos V c _ _ hz]
        rw [outsAt0_B V c t h0 h1]
        simp only [before0_8_B V c t h0 h1]
        unfold out0_B_7 out0_B_8 out0_B_9 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexists _; iexact H9
        isplitl [HS0]; · iexact HS0
        iintro ⟨H0, H1, H2, H3, H4, H5, H6, ⟨%e7, H7⟩, ⟨%e8, H8⟩, ⟨%e9, H9⟩, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat0 (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat0 V c).Φ (Fin.last cfg0.N) ⊢ Pipeline.ΦA spec0 c :=
  Phi_out V c _ (by rw [Fin.val_last]; have : cfg0.N = 8 := N_0; omega)

end

end Cert.KernelIdeal.Hand

end
-- ==== Proof.KernelIdeal.Region1.lean ====
/- The second kernel at every grid point: one block of the weight gradient, a product of two blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x2048 := Rect.unit (s := S512x2048) ![0, 0] S512x2048.size inb_S512x2048_S512x2048_0_0
abbrev r1_1 : Rect S2048x512 := Rect.unit (s := S2048x512) ![0, 0] S2048x512.size inb_S2048x512_S2048x512_0_0
abbrev r1_2 : Rect S512x512 := Rect.unit (s := S512x512) ![0, 0] S512x512.size inb_S512x512_S512x512_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S512x2048 .bf16) (x1 : Vec F S2048x512 .bf16) : Vec F S512x512 .f32 :=
  View.canon [⟨r1_2, k1_pay1 (View.ld x0 r1_0) (View.ld x1 r1_1)⟩]

/-- Its stores tile the buffer (checked by evaluation), so they cover it. -/
theorem cover1_2 (p0 : Vec F S512x512 .f32) (y : S512x512.Idx) :
    ∃ pc ∈ ([⟨r1_2, p0⟩] : List (View.Piece (Elt F) S512x512 .f32)), y ∈ pc.1.set :=
  View.cover_of_tiled [⟨r1_2, p0⟩] S512x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S512x2048 .bf16) (harg2 : arg2.IsWhole) (arg3 : Memref sig .tc .vmem S2048x512 .bf16) (harg3 : arg3.IsWhole) (arg4 : Memref sig .tc .vmem S512x512 .f32) (harg4 : arg4.IsWhole)
    (x0 : Vec F S512x2048 .bf16) (x1 : Vec F S2048x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_dw_pass i arg2 harg2 arg3 harg3 arg4 harg4) K := by
  simp only [cc1_dw_pass_eq_skeleton]; unfold cc1_dw_pass_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- After each point, input window 1 of pass 1 still holds its input block. -/
theorem after1_1 (c : Dev nD) (t : Fin cfg1.N) : (dat1 V c).after 1 t = iblk1 V c 1 t := by dsimp only [dat1]
/-- After each point, output window 2 of pass 1 holds the block that point's body computed. -/
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- Before each point, window 1 of pass 1 holds the point's input block. -/
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end

end Cert.KernelIdeal.Hand

end
-- ==== Proof.KernelIdeal.Run.lean ====
/- The whole of @main: the host stretches and the two kernels in order, what every buffer holds at each boundary, the run and the frame. -/
module

public import proofs.«01_k».proof.Proof.KernelIdeal.Region0
public import proofs.«01_k».proof.Proof.KernelIdeal.Region1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
/-- Every host operation of group 0 writes only buffers of its listed write set. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4]
/-- Every host operation of group 1 writes only buffers of its listed write set. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6]
/-- Every host operation of group 2 writes only buffers of its listed write set. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At stage 0 of the program every argument still holds its initial contents. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At stage 1 of the program every argument still holds its initial contents. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- At stage 2 each array of the pass just run holds that pass's final contents. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The pass leading to stage 2 leaves every buffer that is none of its arrays unchanged. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- At stage 2 of the program every argument still holds its initial contents. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Pass 0 changes no buffer outside its arrays. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- At stage 3 of the program every argument still holds its initial contents. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- At stage 4 each array of the pass just run holds that pass's final contents. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- The pass leading to stage 4 leaves every buffer that is none of its arrays unchanged. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- At stage 4 of the program every argument still holds its initial contents. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- Pass 1 changes no buffer outside its arrays. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- At stage 5 of the program every argument still holds its initial contents. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
/-- At the end argument 1 still holds its initial contents. -/
theorem W5_main_arg1 (c : Dev nD) : W5 m ρ c (Proc.devRef .tc main_arg1) = m ((c : Thread nD τ).loc main_arg1) :=
  W5_args m ρ c main_arg1 (by decide)
/-- At the end argument 2 still holds its initial contents. -/
theorem W5_main_arg2 (c : Dev nD) : W5 m ρ c (Proc.devRef .tc main_arg2) = m ((c : Thread nD τ).loc main_arg2) :=
  W5_args m ρ c main_arg2 (by decide)
/-- At the end argument 3 still holds its initial contents. -/
theorem W5_main_arg3 (c : Dev nD) : W5 m ρ c (Proc.devRef .tc main_arg3) = m ((c : Thread nD τ).loc main_arg3) :=
  W5_args m ρ c main_arg3 (by decide)
/-- At the end argument 4 still holds its initial contents. -/
theorem W5_main_arg4 (c : Dev nD) : W5 m ρ c (Proc.devRef .tc main_arg4) = m ((c : Thread nD τ).loc main_arg4) :=
  W5_args m ρ c main_arg4 (by decide)
/-- At the end argument 5 still holds its initial contents. -/
theorem W5_main_arg5 (c : Dev nD) : W5 m ρ c (Proc.devRef .tc main_arg5) = m ((c : Thread nD τ).loc main_arg5) :=
  W5_args m ρ c main_arg5 (by decide)
/-- At the end argument 6 still holds its initial contents. -/
theorem W5_main_arg6 (c : Dev nD) : W5 m ρ c (Proc.devRef .tc main_arg6) = m ((c : Thread nD τ).loc main_arg6) :=
  W5_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    rw [Pipeline.ownSems0_none]
    have h := hout (V1 m ρ) c
    unfold Pipeline.ΦA at h
    rw [show (pdats m ρ 0 c).Φ (Fin.last _) = (dat0 (V1 m ρ) c).Φ (Fin.last cfg0.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters every weakly fair execution of @main terminates, and at the end every unscoped
    buffer of every core holds the last boundary's contents and every semaphore counter is zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: @main runs, the arguments end as launched, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩, h.2⟩) (run_all m ρ)

end Cert.KernelIdeal.Hand

end
-- ==== Proof.KernelIdeal.Spec.lean ====
/- The mathematics both programs compute, over extended reals and plain coordinates: the normalised input, the decoded weight,
   the product with it, and the three gradients. -/
module
public import Idealize.ShloMosaic.Lib.Pointwise
public import Mathlib.Algebra.BigOperators.Fin
@[expose] public section
noncomputable section
namespace Cert.Spec
open Idealize.ShloMosaic

/-- The problem's inputs, as functions of their coordinates. -/
structure Inputs where
  /-- The input's codes. -/
  x : Fin 4 → Fin 512 → Fin 1536 → EReal
  /-- The input's row scales. -/
  s : Fin 4 → Fin 512 → EReal
  /-- The reciprocal norms. -/
  r : Fin 4 → Fin 512 → EReal
  /-- The gain. -/
  g : Fin 1536 → EReal
  /-- The weight's codes. -/
  w : Fin 1536 → Fin 2048 → EReal
  /-- The weight's block scales. -/
  ws : Fin 12 → Fin 16 → EReal
  /-- The gradient of the projection's output. -/
  dy : Fin 4 → Fin 512 → Fin 2048 → EReal

/-- The inputs read off the seven argument arrays. -/
def ofArgs (x0 : Shape.Idx ⟨3, ![4, 512, 1536]⟩ → EReal) (x1 x2 : Shape.Idx ⟨2, ![4, 512]⟩ → EReal) (x3 : Shape.Idx ⟨1, ![1536]⟩ → EReal)
    (x4 : Shape.Idx ⟨2, ![1536, 2048]⟩ → EReal) (x5 : Shape.Idx ⟨2, ![12, 16]⟩ → EReal) (x6 : Shape.Idx ⟨3, ![4, 512, 2048]⟩ → EReal) : Inputs where
  x b s d := x0 (ix3 b s d)
  s b s := x1 (ix2 b s)
  r b s := x2 (ix2 b s)
  g d := x3 (ix1 d)
  w d n := x4 (ix2 d n)
  ws a b := x5 (ix2 a b)
  dy b s n := x6 (ix3 b s n)

variable (p : Inputs)

/-- The normalised input. -/
def nrm (b : Fin 4) (s : Fin 512) (d : Fin 1536) : EReal := p.x b s d * p.s b s * p.r b s

/-- The decoded weight. -/
def wv (d : Fin 1536) (n : Fin 2048) : EReal :=
  p.w d n * p.ws ⟨d.val / 128, by have := d.isLt; omega⟩ ⟨n.val / 128, by have := n.isLt; omega⟩

/-- The gradient of the normalised input times the gain. -/
def dxh (b : Fin 4) (s : Fin 512) (d : Fin 1536) : EReal := ∑ n : Fin 2048, p.dy b s n * wv p d n

/-- The gradient of the input. -/
def dx (b : Fin 4) (s : Fin 512) (d : Fin 1536) : EReal :=
  p.r b s * (dxh p b s d * p.g d - nrm p b s d * ((∑ e : Fin 1536, dxh p b s e * p.g e * nrm p b s e) * ((1 / 1536 : ℝ) : EReal)))

/-- The gradient of the weight. -/
def dw (d : Fin 1536) (n : Fin 2048) : EReal := ∑ b : Fin 4, ∑ s : Fin 512, nrm p b s d * p.g d * p.dy b s n

/-- The gradient of the gain. -/
def dg (d : Fin 1536) : EReal := ∑ b : Fin 4, ∑ s : Fin 512, dxh p b s d * nrm p b s d

end Cert.Spec
end
-- ==== Proof.KernelIdeal.Scratch.lean ====
/- The scratch weight the first grid point decodes: its 192 tile stores, read back as one function of the codes and the scales. -/
module
public import proofs.«01_k».proof.Proof.KernelIdeal.Region0
public import Idealize.ShloMosaic.Lib.Pipeline.ValueKit.Tiles
public import Idealize.ShloMosaic.Lib.Pipeline.ValueKit.Geometry
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL.Sem

/-- The scale entry of a weight's 128×128 tile. -/
abbrev wsIdx (y : S1536x2048.Idx) : S12x16.Idx := fun a => match a with
  | ⟨0, _⟩ => ⟨(y 0).val / 128, by have h : (y 0).val < 1536 := (y 0).isLt; show (y 0).val / 128 < 12; omega⟩
  | ⟨1, _⟩ => ⟨(y 1).val / 128, by have h : (y 1).val < 2048 := (y 1).isLt; show (y 1).val / 128 < 16; omega⟩

/-- The decoded weight: the stored code times its tile's scale. -/
def wval (x4 : Vec Ideal S1536x2048 .fp8e4m3) (x5 : Vec Ideal S12x16 .f32) : Vec Ideal S1536x2048 .bf16 :=
  fun y => (x4 y : EReal) * (x5 (wsIdx y) : EReal)

/-- One 128×128 tile of the decoded weight, at an index: the code there times the tile's scale. -/
theorem tile_at (arg5 : Memref sig .tc .vmem S1536x2048 .fp8e4m3) (harg5 : arg5.IsWhole) (arg6 : Memref sig .tc .smem S12x16 .f32) (harg6 : arg6.IsWhole)
    (x4 : Vec Ideal S1536x2048 .fp8e4m3) (x5 : Vec Ideal S12x16 .f32) (off5 : Fin 2 → ℕ) (off6 : Fin 2 → ℕ)
    (inb5 : ∀ a, off5 a + S128x128.size a ≤ S1536x2048.size a) (inb6 : ∀ a, off6 a + S1x1.size a ≤ S12x16.size a)
    (h1 : 0 < (S1x1).numel)
    (x : S128x128.Idx) (y : S1536x2048.Idx) (h0 : (y 0).val = off5 0 + (x 0).val) (h1' : (y 1).val = off5 1 + (x 1).val)
    (e0 : off5 0 = 128 * off6 0) (e1 : off5 1 = 128 * off6 1) :
    shapeCast S128x128 (truncf (F := Ideal) .bf16 (mulf (extf .f32 (View.readAt (Elt Ideal) arg5.view (Rect.unit (s := S1536x2048) off5 S128x128.size inb5).toLoadRect (harg5.unread x4)) bitsLt_fp8e4m3_f32)
      (broadcast S128x128 (Scalar.extf (F := Ideal) .f32 bitsLt_bf16_f32 (Scalar.truncf (F := Ideal) .bf16 bitsLt_bf16_f32 (View.readAt (Elt Ideal) arg6.view (Rect.unit (s := S12x16) off6 S1x1.size inb6).toLoadRect (harg6.unread x5) (Shape.Idx.first h1)))))) bitsLt_bf16_f32) shapeCasts_S128x128_S128x128 x
    = wval x4 x5 y := by
  refine (congrFun (shapeCast_self (s := S128x128) _ _) x).trans ?_
  have e5 : View.readAt (Elt Ideal) arg5.view (Rect.unit (s := S1536x2048) off5 S128x128.size inb5).toLoadRect (harg5.unread x4) x = x4 y := by
    rw [View.readAt_eq_ld, harg5.read_unread]
    exact View.ld_unit_apply_of x4 off5 _ inb5 x y (fun a => by fin_cases a; exacts [h0, h1'])
  have e6 : View.readAt (Elt Ideal) arg6.view (Rect.unit (s := S12x16) off6 S1x1.size inb6).toLoadRect (harg6.unread x5) (Shape.Idx.first h1) = x5 (wsIdx y) := by
    rw [View.readAt_eq_ld, harg6.read_unread]
    have b0 : (x 0).val < 128 := (x 0).isLt
    have b1 : (x 1).val < 128 := (x 1).isLt
    exact View.ld_unit_apply_of x5 off6 _ inb6 _ (wsIdx y) (fun a => by
      fin_cases a
      · show (y 0).val / 128 = off6 0 + 0; omega
      · show (y 1).val / 128 = off6 1 + 0; omega)
  show (View.readAt (Elt Ideal) arg5.view (Rect.unit (s := S1536x2048) off5 S128x128.size inb5).toLoadRect (harg5.unread x4) x : EReal) * (View.readAt (Elt Ideal) arg6.view (Rect.unit (s := S12x16) off6 S1x1.size inb6).toLoadRect (harg6.unread x5) (Shape.Idx.first h1) : EReal) = _
  rw [e5, e6]; rfl

/-- What the first point's 192 tile stores leave in the scratch: the decoded weight, at every index. -/
theorem canon_A (c : Dev nD) (arg5 : Memref sig .tc .vmem S1536x2048 .fp8e4m3) (harg5 : arg5.IsWhole) (arg6 : Memref sig .tc .smem S12x16 .f32) (harg6 : arg6.IsWhole)
    (x4 : Vec Ideal S1536x2048 .fp8e4m3) (x5 : Vec Ideal S12x16 .f32) (y : S1536x2048.Idx) :
    View.canon (kernelRun0_A.sl.HS0_192 (F := Ideal) c arg5 harg5 arg6 harg6 x4 x5) y = wval x4 x5 y := by
  unfold kernelRun0_A.sl.HS0_192
  canon_tiles x h
  all_goals exact tile_at arg5 harg5 arg6 harg6 x4 x5 _ _ _ _ _ x y (by first | exact h0 | exact h0.trans (Nat.zero_add _).symm) (by first | exact h1 | exact h1.trans (Nat.zero_add _).symm) (by rfl) (by rfl)
end Cert.KernelIdeal.Hand
end
-- ==== Proof.KernelIdeal.Point.lean ====
/- What the first kernel's outputs and scratch hold after each grid point, as the body's payloads over the point's input blocks. -/
module
public import proofs.«01_k».proof.Proof.KernelIdeal.Scratch
public import Idealize.ShloMosaic.Lib.Pipeline.ValueKit.Tiles
public import Idealize.ShloMosaic.Lib.Pipeline.ValueKit.Geometry
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL.Sem

/-- The first point's read of its scratch, after it decoded the weight into it, is the decoded weight. -/
theorem v31_A (c : Dev nD) (arg5 : Memref sig .tc .vmem S1536x2048 .fp8e4m3) (harg5 : arg5.IsWhole) (arg6 : Memref sig .tc .smem S12x16 .f32) (harg6 : arg6.IsWhole) (arg11 : Memref sig .tc .vmem S1536x2048 .bf16)
    (x4 : Vec Ideal S1536x2048 .fp8e4m3) (x5 : Vec Ideal S12x16 .f32) :
    kernelRun0_A.sl.v31 (F := Ideal) c arg5 harg5 arg6 harg6 arg11 x4 x5 = wval x4 x5 := by
  unfold kernelRun0_A.sl.v31
  rw [View.readCov_eq_canon']
  funext y
  rw [canon_A]
  congr 1
  funext a; apply Fin.ext; fin_cases a <;> exact (Rect.idx_unit_val _ _ _ y _).trans (Nat.zero_add _)

/-- What the first point leaves in the `dx` block: the payload over its input blocks and the decoded weight. -/
theorem out_A_7  (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec Ideal S1x256x1536 .fp8e4m3) (x1 : Vec Ideal S1x1x256 .f32) (x2 : Vec Ideal S1x1x256 .f32) (x3 : Vec Ideal S1x1536 .f32) (x4 : Vec Ideal S1536x2048 .fp8e4m3) (x5 : Vec Ideal S12x16 .f32) (x6 : Vec Ideal S1x256x2048 .bf16)  :
   out0_A_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 = k0_pay3 (k0_pay234 x2) (k0_pay235 x1 x2 x0) (k0_pay236 x3) (k0_pay238 x6 (wval x4 x5)) := by
  unfold out0_A_7 kernelRun0_A; dsimp only
  rw [View.read_writes_junk_eq_canon]
  unfold kernelRun0_A.sl.r_192 kernelRun0_A.sl.r_193 kernelRun0_A.sl.r_194 kernelRun0_A.sl.r_195
  rw [v31_A]
  frame_out

/-- What the first point leaves in the `dgamma` block: its column sums, added to zero. -/
theorem out_A_8  (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec Ideal S1x256x1536 .fp8e4m3) (x1 : Vec Ideal S1x1x256 .f32) (x2 : Vec Ideal S1x1x256 .f32) (x3 : Vec Ideal S1x1536 .f32) (x4 : Vec Ideal S1536x2048 .fp8e4m3) (x5 : Vec Ideal S12x16 .f32) (x6 : Vec Ideal S1x256x2048 .bf16)  :
   out0_A_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 = k0_pay2 (k0_pay239 x1 x2 x0 x6 (wval x4 x5)) (k0_pay1 (F := Ideal)) := by
  unfold out0_A_8 kernelRun0_A; dsimp only
  rw [View.read_writes_junk_eq_canon]
  unfold kernelRun0_A.sl.r_196
  rw [v31_A]
  frame_out

/-- What the first point leaves in its scratch: the decoded weight. -/
theorem sout_A_0  (c : Dev nD) (i : grid0.Coords) (arg1 : Memref sig .tc .vmem S1x256x1536 .fp8e4m3) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x1536 .f32) (harg4 : arg4.IsWhole) (arg5 : Memref sig .tc .vmem S1536x2048 .fp8e4m3) (harg5 : arg5.IsWhole) (arg6 : Memref sig .tc .smem S12x16 .f32) (harg6 : arg6.IsWhole) (arg7 : Memref sig .tc .vmem S1x256x2048 .bf16) (harg7 : arg7.IsWhole) (arg8 : Memref sig .tc .vmem S1x256x1536 .bf16) (harg8 : arg8.IsWhole) (arg9 : Memref sig .tc .vmem S1x1536 .f32) (harg9 : arg9.IsWhole) (arg10 : Memref sig .tc .vmem S1536x256 .bf16) (harg10 : arg10.IsWhole) (arg11 : Memref sig .tc .vmem S1536x2048 .bf16) (harg11 : arg11.IsWhole) (hc0 : cond0_0 i) (hc1 : cond0_1 i)
    (x0 : Vec Ideal S1x256x1536 .fp8e4m3) (x1 : Vec Ideal S1x1x256 .f32) (x2 : Vec Ideal S1x1x256 .f32) (x3 : Vec Ideal S1x1536 .f32) (x4 : Vec Ideal S1536x2048 .fp8e4m3) (x5 : Vec Ideal S12x16 .f32) (x6 : Vec Ideal S1x256x2048 .bf16)  :
   sout0_A_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 = wval x4 x5 := by
  unfold sout0_A_0 kernelRun0_A; dsimp only
  rw [View.read_writes_junk_eq_canon]
  funext y
  exact canon_A c arg5 harg5 arg6 harg6 x4 x5 y

variable (V : (c : Dev nD) → (b : Ref sig .tc) → Buf (Elt Ideal) ((c : Thread nD τ).loc b))

/-- The decoded weight over the arrays as the kernel finds them. -/
abbrev Wd (c : Dev nD) : Vec Ideal S1536x2048 .bf16 := wval (V c main_arg4) (V c main_arg5)

/-- The weight's window is the whole array at every point. -/
theorem iblk_4 (c : Dev nD) (t : Fin cfg0.N) : iblk0 V c 4 t = V c main_arg4 := by
  have e : ∀ t : Fin cfg0.N, win0_4.index t = ![0, 0] := (by decide +kernel : ∀ t : Fin grid0.N, _)
  funext y
  blk_simp [iblk0]
  congr 1
  blk_ext [e t]

/-- The scales' window is the whole array at every point. -/
theorem iblk_5 (c : Dev nD) (t : Fin cfg0.N) : iblk0 V c 5 t = V c main_arg5 := by
  have e : ∀ t : Fin cfg0.N, win0_5.index t = ![0, 0] := (by decide +kernel : ∀ t : Fin grid0.N, _)
  funext y
  blk_simp [iblk0]
  congr 1
  blk_ext [e t]

/-- After every point the scratch holds the decoded weight: the first point writes it, no later one does. -/
theorem scr_eq (c : Dev nD) : ∀ (n : ℕ) (hn : n < cfg0.N), (outsAt0 V c n hn).2.2.2 = Wd V c := by
  intro n
  induction n with
  | zero =>
    intro hn
    rw [outsAt0_A V c ⟨0, hn⟩ rfl rfl]
    dsimp only
    rw [sout_A_0, iblk_4, iblk_5]
  | succ n ih =>
    intro hn
    have hN : n + 1 < 8 := lt_of_lt_of_eq hn (show cfg0.N = 8 from N_0)
    have h : ¬ (n + 1) % 8 = 0 := by omega
    rw [outsAt0_B V c ⟨n + 1, hn⟩ h h]
    dsimp only [sout0_B_0, Nat.add_sub_cancel]
    exact ih _

/-- The `dx` block after point `t`. -/
theorem dx_pt (c : Dev nD) (t : Fin cfg0.N) : (outsAt0 V c t.val t.isLt).1
    = k0_pay3 (k0_pay234 (iblk0 V c 2 t)) (k0_pay235 (iblk0 V c 1 t) (iblk0 V c 2 t) (iblk0 V c 0 t)) (k0_pay236 (iblk0 V c 3 t)) (k0_pay238 (iblk0 V c 6 t) (Wd V c)) := by
  by_cases h : t.val % 8 = 0
  · rw [outsAt0_A V c t h h]
    dsimp only
    rw [out_A_7, iblk_4, iblk_5]
  · rw [outsAt0_B V c t h h]
    frame_out
    rw [scr_eq]
    exact congrArg (k0_pay3 _ _ _) (congrArg (k0_pay238 _) ((Memref.isWhole_whole cc0_scratch0).read_unread _))

/-- The block of the transposed normalised input after point `t`. -/
theorem xht_pt (c : Dev nD) (t : Fin cfg0.N) : (outsAt0 V c t.val t.isLt).2.2.1
    = k0_pay237 (iblk0 V c 1 t) (iblk0 V c 2 t) (iblk0 V c 0 t) (iblk0 V c 3 t) := by
  by_cases h : t.val % 8 = 0
  · rw [outsAt0_A V c t h h]; frame_out
  · rw [outsAt0_B V c t h h]; frame_out

/-- The `dgamma` block after the first point: that point's column sums, added to zero. -/
theorem dg_A (c : Dev nD) (t : Fin cfg0.N) (h : t.val % 8 = 0) : (outsAt0 V c t.val t.isLt).2.1
    = k0_pay2 (k0_pay239 (iblk0 V c 1 t) (iblk0 V c 2 t) (iblk0 V c 0 t) (iblk0 V c 6 t) (Wd V c)) (k0_pay1 (F := Ideal)) := by
  rw [outsAt0_A V c t h h]
  dsimp only
  rw [out_A_8, iblk_4, iblk_5]

/-- The `dgamma` block after a later point: that point's column sums, added to what the point before left. -/
theorem dg_B (c : Dev nD) (t : Fin cfg0.N) (h : ¬ t.val % 8 = 0) : (outsAt0 V c t.val t.isLt).2.1
    = k0_pay2 (k0_pay239 (iblk0 V c 1 t) (iblk0 V c 2 t) (iblk0 V c 0 t) (iblk0 V c 6 t) (Wd V c)) (outsAt0 V c (t.val - 1) (Nat.lt_of_le_of_lt (Nat.sub_le _ _) t.isLt)).2.1 := by
  rw [outsAt0_B V c t h h]
  frame_out
  rw [scr_eq]
  exact congrArg (fun w => k0_pay2 (k0_pay239 _ _ _ _ w) _) ((Memref.isWhole_whole cc0_scratch0).read_unread _)

end Cert.KernelIdeal.Hand
end
-- ==== Proof.KernelIdeal.Pay.lean ====
/- The first kernel's payloads, read at an index over the extended reals. -/
module
public import proofs.«01_k».proof.Proof.Gen.KernelIdeal.Skeleton
public import Idealize.ShloMosaic.Lib.Pointwise
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic

/-- The named constant is the reciprocal of 1536. -/
theorem inv_d : (Named.named (F := Ideal) κ "inv_d" (φ := .f32) 0x3A2AAAAB#32 : EReal) = ((1 / 1536 : ℝ) : EReal) :=
  IdealRules.named_const.ideal_named_scalar _ _ _ _ rfl

/-- The `dgamma` block is started at zero. -/
theorem pay1_apply (d : Fin 1536) : (k0_pay1 (F := Ideal) (ix2 0 d) : EReal) = 0 := by
  pointwise [k0_pay1]

/-- The `dgamma` block's step: a point's column sums added to what the block held. -/
theorem pay2_apply (v34 : Vec Ideal S1536 .f32) (v39 : Vec Ideal S1x1536 .f32) (d : Fin 1536) :
    (k0_pay2 v34 v39 (ix2 0 d) : EReal) = v39 (ix2 0 d) + v34 (ix1 d) := by
  pointwise [k0_pay2]

/-- The reciprocal norms as a column. -/
theorem pay234_apply (v5 : Vec Ideal S1x1x256 .f32) (r : Fin 256) :
    (k0_pay234 v5 (ix2 r 0) : EReal) = v5 (ix3 0 0 r) := by
  pointwise [k0_pay234]

/-- The normalised input: code times scale times reciprocal norm. -/
theorem pay235_apply (v3 v5 : Vec Ideal S1x1x256 .f32) (v15 : Vec Ideal S1x256x1536 .fp8e4m3) (r : Fin 256) (d : Fin 1536) :
    (k0_pay235 v3 v5 v15 (ix2 r d) : EReal) = v15 (ix3 0 r d) * v3 (ix3 0 0 r) * v5 (ix3 0 0 r) := by
  pointwise [k0_pay235, k0_pay234]

/-- The gain as loaded. -/
theorem pay236_apply (v22 : Vec Ideal S1x1536 .f32) (d : Fin 1536) :
    (k0_pay236 v22 (ix2 0 d) : EReal) = v22 (ix2 0 d) := by
  pointwise [k0_pay236]

/-- The transposed normalised input times the gain. -/
theorem pay237_apply (v3 v5 : Vec Ideal S1x1x256 .f32) (v15 : Vec Ideal S1x256x1536 .fp8e4m3) (v22 : Vec Ideal S1x1536 .f32) (r : Fin 256) (d : Fin 1536) :
    (k0_pay237 v3 v5 v15 v22 (ix2 d r) : EReal) = v15 (ix3 0 r d) * v3 (ix3 0 0 r) * v5 (ix3 0 0 r) * v22 (ix2 0 d) := by
  pointwise [k0_pay237, k0_pay235, k0_pay234, k0_pay236]

/-- The product of a `dqkv` block with the decoded weight. -/
theorem pay238_apply (v29 : Vec Ideal S1x256x2048 .bf16) (v31 : Vec Ideal S1536x2048 .bf16) (r : Fin 256) (d : Fin 1536) :
    (k0_pay238 v29 v31 (ix2 r d) : EReal) = ∑ k : Fin 2048, (v29 (ix3 0 r k) : EReal) * v31 (ix2 d k) := by
  pointwise [k0_pay238]

/-- A point's column sums of the product times the normalised input. -/
theorem pay239_apply (v3 v5 : Vec Ideal S1x1x256 .f32) (v15 : Vec Ideal S1x256x1536 .fp8e4m3) (v29 : Vec Ideal S1x256x2048 .bf16) (v31 : Vec Ideal S1536x2048 .bf16) (d : Fin 1536) :
    (k0_pay239 v3 v5 v15 v29 v31 (ix1 d) : EReal) = ∑ r : Fin 256, (∑ k : Fin 2048, (v29 (ix3 0 r k) : EReal) * v31 (ix2 d k)) * (v15 (ix3 0 r d) * v3 (ix3 0 0 r) * v5 (ix3 0 0 r)) := by
  pointwise [k0_pay239, k0_pay238, k0_pay235, k0_pay234]

/-- The `dx` block from the reciprocal norms, the normalised input, the gain and the product. -/
theorem pay3_apply (v10 : Vec Ideal S256x1 .f32) (v21 : Vec Ideal S256x1536 .f32) (v23 : Vec Ideal S1x1536 .f32) (v32 : Vec Ideal S256x1536 .f32) (r : Fin 256) (d : Fin 1536) :
    (k0_pay3 (F := Ideal) v10 v21 v23 v32 (ix3 0 r d) : EReal)
      = v10 (ix2 r 0) * ((v32 (ix2 r d) : EReal) * v23 (ix2 0 d) - v21 (ix2 r d) * ((∑ e : Fin 1536, (v32 (ix2 r e) : EReal) * v23 (ix2 0 e) * v21 (ix2 r e)) * ((1 / 1536 : ℝ) : EReal))) := by
  pointwise [k0_pay3]
  rw [inv_d]

/-- The second kernel's product of two blocks. -/
theorem kpay1_apply (v0 : Vec Ideal S512x2048 .bf16) (v2 : Vec Ideal S2048x512 .bf16) (i j : Fin 512) :
    (k1_pay1 v0 v2 (ix2 i j) : EReal) = ∑ k : Fin 2048, (v0 (ix2 i k) : EReal) * v2 (ix2 k j) := by
  pointwise [k1_pay1]

end Cert.KernelIdeal.Hand
end
-- ==== Proof.KernelIdeal.Arrays0.lean ====
/- What the first kernel's three result arrays hold at its end. -/
module
public import proofs.«01_k».proof.Proof.KernelIdeal.Spec
public import proofs.«01_k».proof.Proof.KernelIdeal.Point
public import proofs.«01_k».proof.Proof.KernelIdeal.Pay
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL.Sem

variable (V : (c : Dev nD) → (b : Ref sig .tc) → Buf (Elt Ideal) ((c : Thread nD τ).loc b)) (c : Dev nD)

/-- The arrays the first kernel reads, as the problem's inputs: the codes, the gain, the weights and the gradient as they are,
    the scales and the reciprocal norms in tiles of 256 rows. -/
structure Reads (p : Spec.Inputs) : Prop where
  x : ∀ b s d, (V c main_arg0 (ix3 b s d) : EReal) = p.x b s d
  s : ∀ (t : Fin 8) (r : Fin 256), (V c main_v0 (ix3 t 0 r) : EReal) = p.s ⟨t.val / 2, by have := t.isLt; omega⟩ ⟨t.val % 2 * 256 + r.val, by have := r.isLt; omega⟩
  r : ∀ (t : Fin 8) (r : Fin 256), (V c main_v1 (ix3 t 0 r) : EReal) = p.r ⟨t.val / 2, by have := t.isLt; omega⟩ ⟨t.val % 2 * 256 + r.val, by have := r.isLt; omega⟩
  g : ∀ d, (V c main_v2 (ix2 0 d) : EReal) = p.g d
  w : ∀ d n, (V c main_arg4 (ix2 d n) : EReal) = p.w d n
  ws : ∀ a b, (V c main_arg5 (ix2 a b) : EReal) = p.ws a b
  dy : ∀ b s n, (V c main_arg6 (ix3 b s n) : EReal) = p.dy b s n

/-- The first pass has eight points. -/
theorem lt8 (t : Fin cfg0.N) : t.val < 8 := lt_of_lt_of_eq t.isLt (show cfg0.N = 8 from N_0)

/-- The batch of a grid point. -/
abbrev bat (t : Fin cfg0.N) : Fin 4 := ⟨t.val / 2, by have := lt8 t; omega⟩
/-- The row a grid point's block row is. -/
abbrev row (t : Fin cfg0.N) (r : Fin 256) : Fin 512 := ⟨t.val % 2 * 256 + r.val, by have := r.isLt; omega⟩

/-- The block index of window 0 at each point. -/
theorem e0 : ∀ t : Fin cfg0.N, win0_0.index t = ![t.val / 2, t.val % 2, 0] := (by decide +kernel : ∀ t : Fin grid0.N, _)
/-- The block index of window 1 at each point. -/
theorem e1 : ∀ t : Fin cfg0.N, win0_1.index t = ![t.val, 0, 0] := (by decide +kernel : ∀ t : Fin grid0.N, _)
/-- The block index of window 2 at each point. -/
theorem e2 : ∀ t : Fin cfg0.N, win0_2.index t = ![t.val, 0, 0] := (by decide +kernel : ∀ t : Fin grid0.N, _)
/-- The block index of window 3 at each point. -/
theorem e3 : ∀ t : Fin cfg0.N, win0_3.index t = ![0, 0] := (by decide +kernel : ∀ t : Fin grid0.N, _)
/-- The block index of window 6 at each point. -/
theorem e6 : ∀ t : Fin cfg0.N, win0_6.index t = ![t.val / 2, t.val % 2, 0] := (by decide +kernel : ∀ t : Fin grid0.N, _)
/-- The block index of window 7 at each point. -/
theorem e7 : ∀ t : Fin cfg0.N, win0_7.index t = ![t.val / 2, t.val % 2, 0] := (by decide +kernel : ∀ t : Fin grid0.N, _)
/-- The block index of window 8 at each point. -/
theorem e8 : ∀ t : Fin cfg0.N, win0_8.index t = ![0, 0] := (by decide +kernel : ∀ t : Fin grid0.N, _)
/-- The block index of window 9 at each point. -/
theorem e9 : ∀ t : Fin cfg0.N, win0_9.index t = ![0, t.val] := (by decide +kernel : ∀ t : Fin grid0.N, _)

variable {V c} {p : Spec.Inputs} (h : Reads V c p) (t : Fin cfg0.N)
include h

/-- The codes' block at a point. -/
theorem blk_x (r : Fin 256) (d : Fin 1536) : (iblk0 V c 0 t (ix3 0 r d) : EReal) = p.x (bat t) (row t r) d := by
  rw [← h.x]
  blk_simp [iblk0]
  congr 1
  blk_ext [e0 t]

/-- The scales' block at a point. -/
theorem blk_s (r : Fin 256) : (iblk0 V c 1 t (ix3 0 0 r) : EReal) = p.s (bat t) (row t r) := by
  refine Eq.trans ?_ (h.s ⟨t.val, lt8 t⟩ r)
  blk_simp [iblk0]
  congr 1
  blk_ext [e1 t]

/-- The reciprocal norms' block at a point. -/
theorem blk_r (r : Fin 256) : (iblk0 V c 2 t (ix3 0 0 r) : EReal) = p.r (bat t) (row t r) := by
  refine Eq.trans ?_ (h.r ⟨t.val, lt8 t⟩ r)
  blk_simp [iblk0]
  congr 1
  blk_ext [e2 t]

/-- The gain's block at a point. -/
theorem blk_g (d : Fin 1536) : (iblk0 V c 3 t (ix2 0 d) : EReal) = p.g d := by
  rw [← h.g]
  blk_simp [iblk0]
  congr 1
  blk_ext [e3 t]

/-- The gradient's block at a point. -/
theorem blk_dy (r : Fin 256) (n : Fin 2048) : (iblk0 V c 6 t (ix3 0 r n) : EReal) = p.dy (bat t) (row t r) n := by
  rw [← h.dy]
  blk_simp [iblk0]
  congr 1
  blk_ext [e6 t]

omit t in
/-- The scratch's weight. -/
theorem Wd_apply (d : Fin 1536) (n : Fin 2048) : (Wd V c (ix2 d n) : EReal) = Spec.wv p d n := by
  unfold Spec.wv
  rw [← h.w, ← h.ws]
  unfold Wd wval
  congr 2
  funext a; apply Fin.ext; fin_cases a <;> rfl

/-- The normalised input's block at a point. -/
theorem n_apply (r : Fin 256) (d : Fin 1536) :
    (k0_pay235 (iblk0 V c 1 t) (iblk0 V c 2 t) (iblk0 V c 0 t) (ix2 r d) : EReal) = Spec.nrm p (bat t) (row t r) d := by
  rw [pay235_apply, blk_x h, blk_s h, blk_r h]; rfl

/-- The product's block at a point. -/
theorem dxh_apply (r : Fin 256) (d : Fin 1536) :
    (k0_pay238 (iblk0 V c 6 t) (Wd V c) (ix2 r d) : EReal) = Spec.dxh p (bat t) (row t r) d := by
  rw [pay238_apply]
  exact Finset.sum_congr rfl fun k _ => by rw [blk_dy h, Wd_apply h]

/-- The `dx` block at a point. -/
theorem dx_apply (r : Fin 256) (d : Fin 1536) :
    ((outsAt0 V c t.val t.isLt).1 (ix3 0 r d) : EReal) = Spec.dx p (bat t) (row t r) d := by
  rw [dx_pt, pay3_apply, pay234_apply, blk_r h, dxh_apply h, pay236_apply, blk_g h, n_apply h]
  unfold Spec.dx
  congr 4
  exact Finset.sum_congr rfl fun e _ => by rw [dxh_apply h, pay236_apply, blk_g h, n_apply h]

/-- The transposed block at a point. -/
theorem xht_apply (r : Fin 256) (d : Fin 1536) :
    ((outsAt0 V c t.val t.isLt).2.2.1 (ix2 d r) : EReal) = Spec.nrm p (bat t) (row t r) d * p.g d := by
  rw [xht_pt, pay237_apply, blk_x h, blk_s h, blk_r h, blk_g h]; rfl

/-- A point's column sums. -/
theorem part_apply (d : Fin 1536) :
    (k0_pay239 (iblk0 V c 1 t) (iblk0 V c 2 t) (iblk0 V c 0 t) (iblk0 V c 6 t) (Wd V c) (ix1 d) : EReal)
      = ∑ r : Fin 256, Spec.dxh p (bat t) (row t r) d * Spec.nrm p (bat t) (row t r) d := by
  rw [pay239_apply]
  refine Finset.sum_congr rfl fun r _ => ?_
  rw [← pay238_apply, dxh_apply h, blk_x h, blk_s h, blk_r h]; rfl

/-- The `dx` block at a point, at an index. -/
theorem dx_at (y : S1x256x1536.Idx) : ((outsAt0 V c t.val t.isLt).1 y : EReal) = Spec.dx p (bat t) (row t (y 1)) (y 2) := by
  obtain ⟨r, d, rfl⟩ : ∃ r d, y = ix3 0 r d := ⟨y 1, y 2, by
    funext a; fin_cases a
    · exact Subsingleton.elim (α := Fin 1) _ _
    · rfl
    · rfl⟩
  exact dx_apply h t r d

/-- The transposed block at a point, at an index. -/
theorem xht_at (y : S1536x256.Idx) :
    ((outsAt0 V c t.val t.isLt).2.2.1 y : EReal) = Spec.nrm p (bat t) (row t (y 1)) (y 0) * p.g (y 0) := by
  obtain ⟨r, d, rfl⟩ : ∃ r d, y = ix2 d r := ⟨y 1, y 0, by funext a; fin_cases a <;> rfl⟩
  exact xht_apply h t r d

omit t in
/-- The array `dx` at the first kernel's end. -/
theorem final_dx : (dat0 V c).arrAt 7 cfg0.N = fun i => Spec.dx p (i 0) (i 1) (i 2) := by
  refine (dat0 V c).arrAt_eq_of_covers 7 _ (by decide +kernel) fun t hf y => ?_
  blk_simp
  rw [after0_7]
  have y0 : (y 0).val = 0 := Nat.lt_one_iff.mp (y 0).isLt
  have a0 : (win0_7.blk t).view.emb y 0 = bat t := by
    apply Fin.ext; blk_simp [e7 t]; try simp [y0]
  have a1 : (win0_7.blk t).view.emb y 1 = row t (y 1) := by
    apply Fin.ext; blk_simp [e7 t]; try simp
  have a2 : (win0_7.blk t).view.emb y 2 = y 2 := by
    apply Fin.ext; blk_simp [e7 t]; try simp
  rw [a0, a1, a2]
  exact dx_at h t y

omit t in
/-- The transposed array at the first kernel's end. -/
theorem final_xht : (dat0 V c).arrAt 9 cfg0.N = fun i => Spec.nrm p ⟨(i 1).val / 512, by have : (i 1).val < 2048 := (i 1).isLt; omega⟩ ⟨(i 1).val % 512, Nat.mod_lt _ (by decide)⟩ (i 0) * p.g (i 0) := by
  refine (dat0 V c).arrAt_eq_of_covers 9 _ (by decide +kernel) fun t hf y => ?_
  have y1 : (y 1).val < 256 := (y 1).isLt
  have b0 : (win0_9.blk t).view.emb y 0 = y 0 := by apply Fin.ext; blk_simp [e9 t]; try simp
  have b1 : ((win0_9.blk t).view.emb y 1).val = t.val * 256 + (y 1).val := by blk_simp [e9 t]; try simp
  have b2 : (⟨((win0_9.blk t).view.emb y 1).val / 512, by rw [b1]; have := lt8 t; omega⟩ : Fin 4) = bat t := by
    apply Fin.ext; simp only [b1]; omega
  have b3 : (⟨((win0_9.blk t).view.emb y 1).val % 512, Nat.mod_lt _ (by decide)⟩ : Fin 512) = row t (y 1) := by
    apply Fin.ext; simp only [b1]; omega
  rw [after0_9]
  refine (xht_at h t y).trans ?_
  show _ = Spec.nrm p (⟨((win0_9.blk t).view.emb y 1).val / 512, _⟩ : Fin 4) (⟨((win0_9.blk t).view.emb y 1).val % 512, _⟩ : Fin 512) ((win0_9.blk t).view.emb y 0) * p.g ((win0_9.blk t).view.emb y 0)
  rw [b2, b3, b0]

omit t in
/-- The column sums accumulate over the grid. -/
theorem dg_last (y : S1x1536.Idx) (t : Fin cfg0.N) (ht : t.val = 7) :
    ((outsAt0 V c t.val t.isLt).2.1 y : EReal) = Spec.dg p (y 1) := by
  have hj : ∀ j : S1x1536.Idx, ∃ d, j = ix2 0 d := fun j => ⟨j 1, by
    funext a; fin_cases a
    · exact Subsingleton.elim (α := Fin 1) _ _
    · rfl⟩
  rw [Pipeline.eq_sum_fin_of_reset_step_apply_last (fun n h => (outsAt0 V c n h).2.1) 8 (fun _ => (0 : EReal))
    (fun t (j : S1x1536.Idx) => ∑ r : Fin 256, Spec.dxh p (bat t) (row t r) (j 1) * Spec.nrm p (bat t) (row t r) (j 1))
    (fun t ht j => by
      rw [dg_A V c t ht]
      obtain ⟨d, rfl⟩ := hj j
      rw [pay2_apply, pay1_apply, part_apply h]; rfl)
    (fun t ht j => by
      rw [dg_B V c t ht]
      obtain ⟨d, rfl⟩ := hj j
      rw [pay2_apply, part_apply h]; rfl)
    (le_of_eq N_0) t (by rw [ht, show cfg0.N = 8 from N_0]) y, zero_add]
  exact Fin.sum_points_lanes_congr 2 fun t k ha hl => rfl

omit t in
/-- The array `dgamma` at the first kernel's end. -/
theorem final_dg : (dat0 V c).arrAt 8 cfg0.N = fun i => Spec.dg p (i 1) := by
  refine (dat0 V c).arrAt_eq_of_covers 8 _ (by decide +kernel) fun t hf y => ?_
  blk_simp
  rw [after0_8]
  have a1 : (win0_8.blk t).view.emb y 1 = y 1 := by apply Fin.ext; blk_simp [e8 t]; try simp
  have ht : t.val = 7 := (by decide +kernel : ∀ t : Fin grid0.N, (win0_8).flush t = true → t.val = 7) t hf
  rw [a1]
  exact dg_last h y t ht

end Cert.KernelIdeal.Hand
end
-- ==== Proof.KernelIdeal.Arrays1.lean ====
/- What the second kernel's result array holds at its end: the product of the transposed array with the flattened gradient. -/
module
public import proofs.«01_k».proof.Proof.KernelIdeal.Spec
public import proofs.«01_k».proof.Proof.KernelIdeal.Region1
public import proofs.«01_k».proof.Proof.KernelIdeal.Pay
public import Idealize.ShloMosaic.Lib.Pipeline.ValueKit.Acc
public import Idealize.ShloMosaic.Lib.Pipeline.ValueKit.Geometry
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL.Sem

/-- The product of a transposed array with a flattened one. -/
def mm (A : S1536x2048.Idx → EReal) (B : S2048x2048.Idx → EReal) (d : Fin 1536) (n : Fin 2048) : EReal := ∑ k : Fin 2048, A (ix2 d k) * B (ix2 k n)

/-- The second pass has twelve points. -/
theorem lt12 (t : Fin cfg1.N) : t.val < 12 := lt_of_lt_of_eq t.isLt (show cfg1.N = 12 from N_1)

/-- The block index of window 0 at each point. -/
theorem f0 : ∀ t : Fin cfg1.N, win1_0.index t = ![t.val % 3, 0] := (by decide +kernel : ∀ t : Fin grid1.N, _)
/-- The block index of window 1 at each point. -/
theorem f1 : ∀ t : Fin cfg1.N, win1_1.index t = ![0, t.val / 3] := (by decide +kernel : ∀ t : Fin grid1.N, _)
/-- The block index of window 2 at each point. -/
theorem f2 : ∀ t : Fin cfg1.N, win1_2.index t = ![t.val % 3, t.val / 3] := (by decide +kernel : ∀ t : Fin grid1.N, _)

variable (V : (c : Dev nD) → (b : Ref sig .tc) → Buf (Elt Ideal) ((c : Thread nD τ).loc b)) (c : Dev nD)

/-- The left block at a point. -/
theorem blk_l (t : Fin cfg1.N) (i : Fin 512) (k : Fin 2048) :
    (iblk1 V c 0 t (ix2 i k) : EReal) = V c main_v3_2 (ix2 ⟨t.val % 3 * 512 + i.val, by have := i.isLt; omega⟩ k) := by
  blk_simp [iblk1]
  congr 1
  blk_ext [f0 t]

/-- The right block at a point. -/
theorem blk_rr (t : Fin cfg1.N) (k : Fin 2048) (j : Fin 512) :
    (iblk1 V c 1 t (ix2 k j) : EReal) = V c main_v4 (ix2 k ⟨t.val / 3 * 512 + j.val, by have := j.isLt; have := lt12 t; omega⟩) := by
  blk_simp [iblk1]
  congr 1
  blk_ext [f1 t]

/-- The block written at a point. -/
theorem out1_at (t : Fin cfg1.N) (y : S512x512.Idx) :
    (out1_2 (iblk1 V c 0 t) (iblk1 V c 1 t) y : EReal)
      = mm (V c main_v3_2) (V c main_v4) ⟨t.val % 3 * 512 + (y 0).val, by have : (y 0).val < 512 := (y 0).isLt; omega⟩
          ⟨t.val / 3 * 512 + (y 1).val, by have : (y 1).val < 512 := (y 1).isLt; have := lt12 t; omega⟩ := by
  obtain ⟨i, j, rfl⟩ : ∃ i j, y = ix2 i j := ⟨y 0, y 1, by funext a; fin_cases a <;> rfl⟩
  frame_out
  rw [kpay1_apply]
  exact Finset.sum_congr rfl fun k _ => by rw [blk_l, blk_rr]; rfl

/-- The row the output block's row is. -/
theorem emb_0 (t : Fin cfg1.N) (y : S512x512.Idx) :
    (win1_2.blk t).view.emb y 0 = (⟨t.val % 3 * 512 + (y 0).val, by have : (y 0).val < 512 := (y 0).isLt; omega⟩ : Fin 1536) := by
  apply Fin.ext; blk_simp [f2 t]; try simp

/-- The column the output block's column is. -/
theorem emb_1 (t : Fin cfg1.N) (y : S512x512.Idx) :
    (win1_2.blk t).view.emb y 1 = (⟨t.val / 3 * 512 + (y 1).val, by have : (y 1).val < 512 := (y 1).isLt; have := lt12 t; omega⟩ : Fin 2048) := by
  apply Fin.ext; blk_simp [f2 t]; try simp

/-- The array `dw` at the second kernel's end. -/
theorem final_dw : (dat1 V c).arrAt 2 cfg1.N = fun i : S1536x2048.Idx => mm (V c main_v3_2) (V c main_v4) (i 0) (i 1) := by
  refine (dat1 V c).arrAt_eq_of_covers 2 _ (by decide +kernel) fun t hf y => ?_
  blk_simp
  rw [after1_2]
  rw [emb_0 t y, emb_1 t y]
  exact out1_at V c t y
end Cert.KernelIdeal.Hand
end
-- ==== Proof.KernelIdeal.Values.lean ====
/- The kernel's three results as the specification's functions of the arguments. -/
module
public import proofs.«01_k».proof.Proof.KernelIdeal.Arrays0
public import proofs.«01_k».proof.Proof.KernelIdeal.Arrays1
public import proofs.«01_k».proof.Proof.KernelIdeal.Run
public import Idealize.ShloMosaic.Lib.StableHlo.Run
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The arguments in a memory as the specification's inputs. -/
def ins : Spec.Inputs := Spec.ofArgs (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))

/-- The scales' buffer is the scales, reshaped. -/
theorem W1_v0 : V1 m ρ c main_v0 = shapeCast S8x1x256 (m ((c.tc : Thread nD τ).loc main_arg1)) shapeCasts_S4x512_S8x1x256 := by
  show StableHlo.after hostOps0 (W0 m ρ c) (Proc.devRef .tc main_v0) = _
  after_results; rfl
/-- The reciprocal norms' buffer is the reciprocal norms, reshaped. -/
theorem W1_v1 : V1 m ρ c main_v1 = shapeCast S8x1x256 (m ((c.tc : Thread nD τ).loc main_arg2)) shapeCasts_S4x512_S8x1x256 := by
  show StableHlo.after hostOps0 (W0 m ρ c) (Proc.devRef .tc main_v1) = _
  after_results; rfl
/-- The gain's buffer is the gain, reshaped. -/
theorem W1_v2 : V1 m ρ c main_v2 = shapeCast S1x1536 (m ((c.tc : Thread nD τ).loc main_arg3)) shapeCasts_S1536_S1x1536 := by
  show StableHlo.after hostOps0 (W0 m ρ c) (Proc.devRef .tc main_v2) = _
  after_results; rfl
/-- The flattened gradient's buffer is the gradient, reshaped. -/
theorem W3_v4 : V3 m ρ c main_v4 = shapeCast S2048x2048 (m ((c.tc : Thread nD τ).loc main_arg6)) shapeCasts_S4x512x2048_S2048x2048 := by
  show StableHlo.after hostOps1 (W2 m ρ c) (Proc.devRef .tc main_v4) = _
  rw [← W2_args m ρ c main_arg6 (by decide)]
  after_results; rfl
/-- The gain's gradient is the first kernel's, reshaped. -/
theorem W5_v6 : W5 m ρ c (Proc.devRef .tc main_v6) = shapeCast S1536 (W4 m ρ c (Proc.devRef .tc main_v3_1)) shapeCasts_S1x1536_S1536 := by
  show StableHlo.after hostOps2 (W4 m ρ c) (Proc.devRef .tc main_v6) = _
  after_results; rfl

/-- A row vector of four batches of 512, in eight tiles of 256. -/
theorem tile_apply (x : S4x512.Idx → EReal) (t : Fin 8) (r : Fin 256) :
    shapeCast S8x1x256 x shapeCasts_S4x512_S8x1x256 (ix3 t 0 r)
      = x (ix2 ⟨t.val / 2, by have := t.isLt; omega⟩ ⟨t.val % 2 * 256 + r.val, by have := r.isLt; omega⟩) := by
  have := r.isLt
  refine shapeCast_apply x shapeCasts_S4x512_S8x1x256 _ _ ?_
  rw [Shape.rowMajor_val_two, Shape.rowMajor_val_three]
  show t.val / 2 * 512 + (t.val % 2 * 256 + r.val) = (t.val * 1 + 0) * 256 + r.val
  omega

/-- The gradient flattened to 2048 rows. -/
theorem flat_apply (x : S4x512x2048.Idx → EReal) (k : Fin 2048) (n : Fin 2048) :
    shapeCast S2048x2048 x shapeCasts_S4x512x2048_S2048x2048 (ix2 k n)
      = x (ix3 ⟨k.val / 512, by have := k.isLt; omega⟩ ⟨k.val % 512, Nat.mod_lt _ (by decide)⟩ n) := by
  refine shapeCast_apply x shapeCasts_S4x512x2048_S2048x2048 _ _ ?_
  rw [Shape.rowMajor_val_two, Shape.rowMajor_val_three]
  show (k.val / 512 * 512 + k.val % 512) * 2048 + n.val = k.val * 2048 + n.val
  omega

/-- The gain as a one-row array. -/
theorem gain_apply (x : S1536.Idx → EReal) (d : Fin 1536) : shapeCast S1x1536 x shapeCasts_S1536_S1x1536 (ix2 0 d) = x (ix1 d) := by
  refine shapeCast_apply x shapeCasts_S1536_S1x1536 _ _ ?_
  rw [Shape.rowMajor_val_two, Shape.rowMajor_val_one]
  show d.val = 0 * 1536 + d.val
  omega

/-- A one-row array as a vector. -/
theorem vec_apply (x : S1x1536.Idx → EReal) (d : Fin 1536) : shapeCast S1536 x shapeCasts_S1x1536_S1536 (ix1 d) = x (ix2 0 d) := by
  refine shapeCast_apply x shapeCasts_S1x1536_S1536 _ _ ?_
  rw [Shape.rowMajor_val_two, Shape.rowMajor_val_one]
  show 0 * 1536 + d.val = d.val
  omega

/-- The first kernel finds the problem's inputs. -/
theorem reads : Reads (V1 m ρ) c (ins m c) where
  x b s d := congrFun (W1_args m ρ c main_arg0 (by decide)) _
  s t r := (congrFun (W1_v0 m ρ c) _).trans (tile_apply _ t r)
  r t r := (congrFun (W1_v1 m ρ c) _).trans (tile_apply _ t r)
  g d := (congrFun (W1_v2 m ρ c) _).trans (gain_apply _ d)
  w d n := congrFun (W1_args m ρ c main_arg4 (by decide)) _
  ws a b := congrFun (W1_args m ρ c main_arg5 (by decide)) _
  dy b s n := congrFun (W1_args m ρ c main_arg6 (by decide)) _

/-- The input's gradient at the end. -/
theorem res_dx : W5 m ρ c (Proc.devRef .tc main_v3_0) = (fun i : S4x512x1536.Idx => Spec.dx (ins m c) (i 0) (i 1) (i 2)) :=
  (W5_of m ρ c main_v3_0 (by decide)).trans ((W4_of m ρ c main_v3_0 (by decide +kernel)).trans ((W3_of m ρ c main_v3_0 (by decide)).trans
    ((W2_arr m ρ c 7).trans (final_dx (reads m ρ c)))))

/-- The gain's gradient at the end. -/
theorem res_dg : W5 m ρ c (Proc.devRef .tc main_v6) = (fun i : S1536.Idx => Spec.dg (ins m c) (i 0)) := by
  have hv : W4 m ρ c (Proc.devRef .tc main_v3_1) = (fun i : S1x1536.Idx => Spec.dg (ins m c) (i 1)) :=
    (W4_of m ρ c main_v3_1 (by decide +kernel)).trans ((W3_of m ρ c main_v3_1 (by decide)).trans
      ((W2_arr m ρ c 8).trans (final_dg (reads m ρ c))))
  rw [W5_v6, hv]
  funext i
  obtain ⟨d, rfl⟩ : ∃ d, i = ix1 d := ⟨i 0, by funext k; fin_cases k; rfl⟩
  exact vec_apply _ d

/-- The second kernel's product is the weight's gradient. -/
theorem mm_dw (p : Spec.Inputs) (A : S1536x2048.Idx → EReal) (B : S2048x2048.Idx → EReal)
    (hA : ∀ d (k : Fin 2048), A (ix2 d k) = Spec.nrm p ⟨k.val / 512, by have := k.isLt; omega⟩ ⟨k.val % 512, Nat.mod_lt _ (by decide)⟩ d * p.g d)
    (hB : ∀ (k n : Fin 2048), B (ix2 k n) = p.dy ⟨k.val / 512, by have := k.isLt; omega⟩ ⟨k.val % 512, Nat.mod_lt _ (by decide)⟩ n)
    (d : Fin 1536) (n : Fin 2048) : mm A B d n = Spec.dw p d n := by
  unfold mm Spec.dw
  refine Eq.trans (Finset.sum_congr rfl fun k _ => by rw [hA, hB]) ?_
  exact Fin.sum_divmod_fin (N := 2048) (A := 4) 512 fun b s => Spec.nrm p b s d * p.g d * p.dy b s n

/-- The weight's gradient at the end. -/
theorem res_dw : W5 m ρ c (Proc.devRef .tc main_v5) = (fun i : S1536x2048.Idx => Spec.dw (ins m c) (i 0) (i 1)) := by
  have hA : V3 m ρ c main_v3_2 = _ := (W3_of m ρ c main_v3_2 (by decide)).trans ((W2_arr m ρ c 9).trans (final_xht (reads m ρ c)))
  refine (W5_of m ρ c main_v5 (by decide)).trans ((W4_arr m ρ c 2).trans ((final_dw (V3 m ρ) c).trans ?_))
  funext i
  exact mm_dw (ins m c) _ _ (fun d k => congrFun hA _) (fun k n => (congrFun (W3_v4 m ρ c) _).trans (flat_apply _ k n)) (i 0) (i 1)

/-- The kernel ends with the specification's three gradients of its arguments, which it leaves unchanged. -/
theorem run_spec : θ_run defs (onTc (τ := τ) (main (F := Ideal))) ⟨m, fun _ => 0, ρ⟩ fun r => ∀ c : Dev nD,
      r.2.mem ((c.tc : Thread nD τ).loc main_v3_0) = (fun i : S4x512x1536.Idx => Spec.dx (ins m c) (i 0) (i 1) (i 2))
      ∧ r.2.mem ((c.tc : Thread nD τ).loc main_v5) = (fun i : S1536x2048.Idx => Spec.dw (ins m c) (i 0) (i 1))
      ∧ r.2.mem ((c.tc : Thread nD τ).loc main_v6) = (fun i : S1536.Idx => Spec.dg (ins m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h.1 c _ (mem_uc main_v3_0 (by decide))).trans (res_dx m ρ c),
       (h.1 c _ (mem_uc main_v5 (by decide))).trans (res_dw m ρ c),
       (h.1 c _ (mem_uc main_v6 (by decide))).trans (res_dg m ρ c),
       (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩) (run_all m ρ)

end Cert.KernelIdeal.Hand
end
-- ==== Proof.ReferenceIdeal.Values.lean ====
/- The reference's three results as the specification's functions of the arguments. -/
module
public import proofs.«01_k».proof.Proof.KernelIdeal.Spec
public import proofs.«01_k».proof.Proof.Gen.ReferenceIdeal.Read
public import proofs.«01_k».proof.Proof.Gen.ReferenceIdeal.Points
public import Idealize.ShloMosaic.Lib.Pointwise
public import Idealize.ShloMosaic.Lib.Pipeline.ValueKit.Acc
public import Idealize.ShloMosaic.Lib.Pipeline.ValueKit.Geometry
@[expose] public section
set_option maxRecDepth 16384
noncomputable section
namespace Cert.ReferenceIdeal.Hand
open Cert.ReferenceIdeal Cert.ReferenceIdeal.Gen Cert.ReferenceIdeal.Read
open Idealize.ShloMosaic Idealize.ShloMosaic.TcCoe Idealize.ShloMosaic.Tactic Idealize.ShloMosaic.StableHlo
open Idealize.SL.Sem

/-- A sum over the first two of three axes, at an index: the indices that drop to `j`. -/
theorem fiber_a01 {n0 n1 n2 : Nat} (h : (⟨3, ![n0, n1, n2]⟩ : Shape).ReducesTo [0, 1] ⟨1, ![n2]⟩) (d : Fin n2) (i : (⟨3, ![n0, n1, n2]⟩ : Shape).Idx) :
    h.drop i = ix1 d ↔ ∃ k : Fin n0 × Fin n1, ix3 k.1 k.2 d = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, Nat.one_pos⟩)).symm
  · rintro ⟨k, rfl⟩
    funext b
    apply Fin.ext
    match b with
    | ⟨0, _⟩ => rfl

/-- The host's float sum over the first two of three axes, at an index, ideally. -/
theorem hostReduceAdd_a01 {n0 n1 n2 : Nat} (h : (⟨3, ![n0, n1, n2]⟩ : Shape).ReducesTo [0, 1] ⟨1, ![n2]⟩) (v : (⟨3, ![n0, n1, n2]⟩ : Shape).Idx → EReal)
    (init : EReal) (d : Fin n2) : Ideal.hostReduceAdd h v init (ix1 d) = init + ∑ a : Fin n0, ∑ b : Fin n1, v (ix3 a b d) := by
  refine congrArg (init + ·) ((Finset.sum_filter_eq_sum_of_fiber _ (fun k : Fin n0 × Fin n1 => ix3 k.1 k.2 d)
    (fun _ _ e => Prod.ext (congrFun e 0) (congrFun e 1)) (fiber_a01 h d) v).trans ?_)
  simp only [Fintype.sum_prod_type]

section Ops
variable (x0 : Vec Ideal S4x512x1536 .f32) (x1 x2 : Vec Ideal S4x512 .f32) (x3 : Vec Ideal S1536 .f32) (x4 : Vec Ideal S1536x2048 .bf16)
  (x5 : Vec Ideal S12x16 .f32) (x6 : Vec Ideal S4x512x2048 .bf16)

/-- The arguments as the specification's inputs, the codes already decoded. -/
abbrev inp : Spec.Inputs := Spec.ofArgs x0 x1 x2 x3 x4 x5 x6

/-- The normalised input. -/
theorem v6_at (b : Fin 4) (s : Fin 512) (d : Fin 1536) :
    (val_main_v6 (F := Ideal) x1 x2 x0 (ix3 b s d) : EReal) = x0 (ix3 b s d) * x1 (ix2 b s) * x2 (ix2 b s) := by
  pointwise [val_main_v6, val_main_v5, val_main_v4, val_main_v3, val_main_v2, val_main_v1]

/-- The decoded weight. -/
theorem v17_at (d : Fin 1536) (n : Fin 2048) :
    (val_main_v17 (F := Ideal) x5 x4 (ix2 d n) : EReal)
      = x4 (ix2 d n) * x5 (ix2 ⟨d.val / 128, by have := d.isLt; omega⟩ ⟨n.val / 128, by have := n.isLt; omega⟩) := by
  rw [val_main_v17_apply, val_main_v16_apply, val_main_v12_apply, val_main_v15_apply, val_main_v14_apply, val_main_v13_apply]
  have hd := d.isLt
  have hn := n.isLt
  have a1 : idx_main_v12 (idx_main_v17 (ix2 d n)) = ix2 d n := by
    funext a; apply Fin.ext
    fin_cases a
    · show _ / 2048 = d.val
      dsimp
      omega
    · show _ % 2048 = n.val
      dsimp
      omega
  have a2 : idx_main_v14 (idx_main_v15 (idx_main_v17 (ix2 d n))) = ix2 ⟨d.val / 128, by omega⟩ ⟨n.val / 128, by omega⟩ := by
    funext a; apply Fin.ext
    fin_cases a
    · show (d.val * 2048 + n.val) / 262144 = d.val / 128
      omega
    · show (d.val * 2048 + n.val) / 128 % 16 = n.val / 128
      omega
  rw [a1, a2]; rfl

/-- The product with the decoded weight. -/
theorem v18_at (b : Fin 4) (s : Fin 512) (d : Fin 1536) :
    (val_main_v18 (F := Ideal) x5 x6 x4 (ix3 b s d) : EReal) = Spec.dxh (inp x0 x1 x2 x3 x4 x5 x6) b s d := by
  have : (val_main_v18 (F := Ideal) x5 x6 x4 (ix3 b s d) : EReal)
      = ∑ n : Fin 2048, (x6 (ix3 b s n) : EReal) * val_main_v17 (F := Ideal) x5 x4 (ix2 d n) := by
    pointwise [val_main_v18]
  rw [this]
  exact Finset.sum_congr rfl fun n _ => by rw [v17_at]; rfl

/-- The weight's gradient. -/
theorem v11_at (d : Fin 1536) (n : Fin 2048) :
    (val_main_v11 (F := Ideal) x1 x2 x3 x6 x0 (ix2 d n) : EReal) = Spec.dw (inp x0 x1 x2 x3 x4 x5 x6) d n := by
  have : (val_main_v11 (F := Ideal) x1 x2 x3 x6 x0 (ix2 d n) : EReal)
      = ∑ b : Fin 4, ∑ s : Fin 512, (val_main_v6 (F := Ideal) x1 x2 x0 (ix3 b s d) : EReal) * x3 (ix1 d) * x6 (ix3 b s n) := by
    pointwise [val_main_v11, val_main_v10, val_main_v9, val_main_v8, val_main_v7]
  rw [this]
  exact Finset.sum_congr rfl fun b _ => Finset.sum_congr rfl fun s _ => by rw [v6_at]; rfl

/-- The gain's gradient. -/
theorem v20_at (d : Fin 1536) :
    (val_main_v20 (F := Ideal) x1 x2 x5 x6 x0 x4 (ix1 d) : EReal) = Spec.dg (inp x0 x1 x2 x3 x4 x5 x6) d := by
  have : (val_main_v20 (F := Ideal) x1 x2 x5 x6 x0 x4 (ix1 d) : EReal)
      = ∑ b : Fin 4, ∑ s : Fin 512, (val_main_v18 (F := Ideal) x5 x6 x4 (ix3 b s d) : EReal) * val_main_v6 (F := Ideal) x1 x2 x0 (ix3 b s d) := by
    pointwise [val_main_v20, val_main_v19, val_main_cst]
    rw [hostReduceAdd_a01, zero_add]; rfl
  rw [this]
  exact Finset.sum_congr rfl fun b _ => Finset.sum_congr rfl fun s _ => by rw [v18_at x0 x1 x2 x3, v6_at]; rfl

/-- The constant the mean divides by. -/
theorem bits_1536 : (Ideal.ofBits .f32 0x44C00000#32 : EReal) = ((1536 : ℝ) : EReal) := by
  simp [Ideal.ofBits, Ideal.ieee, -EReal.coe_mul]; norm_num

/-- The input's gradient. -/
theorem v35_at (b : Fin 4) (s : Fin 512) (d : Fin 1536) :
    (val_main_v35 (F := Ideal) x1 x2 x3 x5 x6 x0 x4 (ix3 b s d) : EReal) = Spec.dx (inp x0 x1 x2 x3 x4 x5 x6) b s d := by
  have : (val_main_v35 (F := Ideal) x1 x2 x3 x5 x6 x0 x4 (ix3 b s d) : EReal)
      = x2 (ix2 b s) * ((val_main_v18 (F := Ideal) x5 x6 x4 (ix3 b s d) : EReal) * x3 (ix1 d)
          - val_main_v6 (F := Ideal) x1 x2 x0 (ix3 b s d) * (Ideal.div (∑ e : Fin 1536, (val_main_v18 (F := Ideal) x5 x6 x4 (ix3 b s e) : EReal) * x3 (ix1 e)
              * val_main_v6 (F := Ideal) x1 x2 x0 (ix3 b s e)) (Ideal.ofBits .f32 0x44C00000#32))) := by
    pointwise [val_main_v35, val_main_v34, val_main_v33, val_main_v32, val_main_v31, val_main_v30, val_main_v29, val_main_v28, val_main_v27,
      val_main_v26, val_main_v25, val_main_v24, val_main_v23, val_main_v22, val_main_v21, val_main_cst_0, val_main_cst_1]
  rw [this, bits_1536, Ideal.div_coe (by norm_num : (1536:ℝ) ≠ 0), v18_at x0 x1 x2 x3, v6_at]
  unfold Spec.dx
  congr 4
  exact Finset.sum_congr rfl fun e _ => by rw [v18_at x0 x1 x2 x3, v6_at]; rfl

end Ops

variable (m : (ℓ : Loc nD τ sig) → Buf (Elt Ideal) ℓ) (c : Dev nD)

/-- The block index of window 0 at each point. -/
theorem e0 : ∀ t : Fin cfg0.N, win0_0.index t = ![0, 0, 0] := (by decide +kernel : ∀ t : Fin grid0.N, _)
/-- The block index of window 1 at each point. -/
theorem e1 : ∀ t : Fin cfg0.N, win0_1.index t = ![0, 0] := (by decide +kernel : ∀ t : Fin grid0.N, _)
/-- The block index of window 2 at each point. -/
theorem e2 : ∀ t : Fin cfg0.N, win0_2.index t = ![0, 0, 0] := (by decide +kernel : ∀ t : Fin grid0.N, _)
/-- The block index of window 3 at each point. -/
theorem e3 : ∀ t : Fin cfg0.N, win0_3.index t = ![0, 0] := (by decide +kernel : ∀ t : Fin grid0.N, _)

/-- The decoded input holds the input's codes. -/
theorem reg_x : Value.reg_main_v0_0 m c = (m ((c.tc : Thread nD τ).loc main_arg0) : S4x512x1536.Idx → EReal) := by
  refine (Gen.dats m 0 c).arrAt_eq_of_covers 2 _ (by decide +kernel) fun t hf y => ?_
  blk_simp
  rw [Gen.after0_2]
  frame_out
  refine congrArg (m ((c.tc : Thread nD τ).loc main_arg0)) (show (win0_0.blk t).view.emb y = (win0_2.blk t).view.emb y from ?_)
  blk_ext [e0 t, e2 t]

/-- The decoded weight codes hold the weight's codes. -/
theorem reg_w : Value.reg_main_v0_1 m c = (m ((c.tc : Thread nD τ).loc main_arg4) : S1536x2048.Idx → EReal) := by
  refine (Gen.dats m 0 c).arrAt_eq_of_covers 3 _ (by decide +kernel) fun t hf y => ?_
  blk_simp
  rw [Gen.after0_3]
  frame_out
  refine congrArg (m ((c.tc : Thread nD τ).loc main_arg4)) (show (win0_1.blk t).view.emb y = (win0_3.blk t).view.emb y from ?_)
  blk_ext [e1 t, e3 t]

/-- The arguments in a memory as the specification's inputs. -/
def ins : Spec.Inputs := Spec.ofArgs (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))

/-- The reference ends with the specification's three gradients of its arguments, which it leaves unchanged. -/
theorem run_spec (ρ : Dev nD → PrngReg) :
    θ_run defs (onTc (τ := τ) (main (F := Ideal))) ⟨m, fun _ => 0, ρ⟩ fun r => ∀ c : Dev nD,
      r.2.mem ((c.tc : Thread nD τ).loc main_v35) = (fun i : S4x512x1536.Idx => Spec.dx (ins m c) (i 0) (i 1) (i 2))
      ∧ r.2.mem ((c.tc : Thread nD τ).loc main_v11) = (fun i : S1536x2048.Idx => Spec.dw (ins m c) (i 0) (i 1))
      ∧ r.2.mem ((c.tc : Thread nD τ).loc main_v20) = (fun i : S1536.Idx => Spec.dg (ins m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (Value.run m ρ)
  refine ⟨(h c).1.trans ?_, (h c).2.1.trans ?_, (h c).2.2.1.trans ?_, (h c).2.2.2⟩
  · rw [reg_x, reg_w]
    funext i
    obtain ⟨a, b, d, rfl⟩ : ∃ a b d, i = ix3 a b d := ⟨i 0, i 1, i 2, by funext k; fin_cases k <;> rfl⟩
    exact v35_at _ _ _ _ _ _ _ a b d
  · rw [reg_x]
    funext i
    obtain ⟨a, b, rfl⟩ : ∃ a b, i = ix2 a b := ⟨i 0, i 1, by funext k; fin_cases k <;> rfl⟩
    exact v11_at _ _ _ _ (m ((c.tc : Thread nD τ).loc main_arg4)) (m ((c.tc : Thread nD τ).loc main_arg5)) _ a b
  · rw [reg_x, reg_w]
    funext i
    obtain ⟨a, rfl⟩ : ∃ a, i = ix1 a := ⟨i 0, by funext k; fin_cases k <;> rfl⟩
    exact v20_at _ _ _ (m ((c.tc : Thread nD τ).loc main_arg3)) _ _ _ a

end Cert.ReferenceIdeal.Hand
end
-- ==== Proof.lean ====
/- The proof of every claim: the three programs run, leave their arguments unchanged and end with every counter at zero; the
   idealized kernel differs from the kernel by one named constant; the idealized kernel and the idealized reference compute the
   same three gradients, both being the specification's (KernelIdeal/Spec.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.KernelIdeal.Values
public import proofs.«01_k».proof.Proof.ReferenceIdeal.Values
public import Idealize.ShloMosaic.Adequacy
public import Idealize.ShloMosaic.Init

@[expose] public section

noncomputable section

namespace Cert.Proof

open Idealize.ShloMosaic Idealize.SL.Sem

/-- The two sides' inputs agree when their memories agree on the arguments. -/
theorem ins_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.ins m' c = Cert.KernelIdeal.Hand.ins m c := by
  unfold Cert.ReferenceIdeal.Hand.ins Cert.KernelIdeal.Hand.ins
  rw [h0, h1, h2, h3, h4, h5, h6]

/-- The idealized kernel and the idealized reference end with equal results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c i => Spec.dx (Cert.KernelIdeal.Hand.ins m c) (i 0) (i 1) (i 2), fun c i => Spec.dw (Cert.KernelIdeal.Hand.ins m c) (i 0) (i 1),
    fun c i => Spec.dg (Cert.KernelIdeal.Hand.ins m c) (i 0), Cert.KernelIdeal.Hand.run_spec m g, ?_⟩
  refine (θ_run _ _ _).mono (fun _ h c => ?_) (Cert.ReferenceIdeal.Hand.run_spec m' g')
  obtain ⟨h0, h1, h2, h3, h4, h5, h6⟩ := hargs c
  have e := ins_eq m m' c h0 h1 h2 h3 h4 h5 h6
  have hc := h c
  rw [e] at hc
  exact hc

/-- Every claim. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  IdealRules.named_const.statement Cert.KernelIdeal.κ "inv_d" .f32 0x3A2AAAAB#32 _ rfl, algebraic⟩

end Cert.Proof

end
